-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x4608 : Shape := ⟨3, ![2, 128, 4608]⟩
abbrev S4608x73728 : Shape := ⟨2, ![4608, 73728]⟩
abbrev S73728 : Shape := ⟨1, ![73728]⟩
abbrev S1 : Shape := ⟨1, ![1]⟩
abbrev S1x73728 : Shape := ⟨2, ![1, 73728]⟩
abbrev S256x4608 : Shape := ⟨2, ![256, 4608]⟩
abbrev S256x36864 : Shape := ⟨2, ![256, 36864]⟩
abbrev S1x1 : Shape := ⟨2, ![1, 1]⟩
abbrev S4608x512 : Shape := ⟨2, ![4608, 512]⟩
abbrev S1x512 : Shape := ⟨2, ![1, 512]⟩
abbrev S256x512 : Shape := ⟨2, ![256, 512]⟩
abbrev S8x512 : Shape := ⟨2, ![8, 512]⟩
abbrev S1x256x4608 : Shape := ⟨3, ![1, 256, 4608]⟩
abbrev S1x1x1 : Shape := ⟨3, ![1, 1, 1]⟩
abbrev S32x8x512 : Shape := ⟨3, ![32, 8, 512]⟩
abbrev S1x8x512 : Shape := ⟨3, ![1, 8, 512]⟩
abbrev S2x128x36864 : Shape := ⟨3, ![2, 128, 36864]⟩

abbrev nBuf : Space → Nat
  | .hbm => 15
  | .vmem => 15
  | .smem => 2
  | _ => 0

abbrev bufTy : (tb : Table) → Fin (tcTables nBuf tb) → BufTy
  | .hbm, ⟨0, _⟩ => ⟨S2x128x4608, .bf16⟩
  | .hbm, ⟨1, _⟩ => ⟨S4608x73728, .fp8e4m3⟩
  | .hbm, ⟨2, _⟩ => ⟨S73728, .f32⟩
  | .hbm, ⟨3, _⟩ => ⟨S1, .f32⟩
  | .hbm, ⟨4, _⟩ => ⟨S1, .f32⟩
  | .hbm, ⟨5, _⟩ => ⟨S1x73728, .f32⟩
  | .hbm, ⟨6, _⟩ => ⟨S256x4608, .bf16⟩
  | .hbm, ⟨7, _⟩ => ⟨S256x36864, .fp8e4m3⟩
  | .hbm, ⟨8, _⟩ => ⟨S256x4608, .fp8e4m3⟩
  | .hbm, ⟨9, _⟩ => ⟨S1x1, .f32⟩
  | .hbm, ⟨10, _⟩ => ⟨S1x1, .f32⟩
  | .hbm, ⟨11, _⟩ => ⟨S2x128x36864, .fp8e4m3⟩
  | .hbm, ⟨12, _⟩ => ⟨S2x128x4608, .fp8e4m3⟩
  | .hbm, ⟨13, _⟩ => ⟨S1, .f32⟩
  | .hbm, ⟨14, _⟩ => ⟨S1, .f32⟩
  | .local _ .vmem, ⟨0, _⟩ => ⟨S256x4608, .bf16⟩
  | .local _ .vmem, ⟨1, _⟩ => ⟨S4608x512, .fp8e4m3⟩
  | .local _ .vmem, ⟨2, _⟩ => ⟨S4608x512, .fp8e4m3⟩
  | .local _ .vmem, ⟨3, _⟩ => ⟨S4608x512, .fp8e4m3⟩
  | .local _ .vmem, ⟨4, _⟩ => ⟨S4608x512, .fp8e4m3⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S256x512, .fp8e4m3⟩
  | .local _ .vmem, ⟨10, _⟩ => ⟨S256x512, .fp8e4m3⟩
  | .local _ .vmem, ⟨11, _⟩ => ⟨S256x4608, .fp8e4m3⟩
  | .local _ .vmem, ⟨12, _⟩ => ⟨S1x1, .f32⟩
  | .local _ .vmem, ⟨13, _⟩ => ⟨S1x1, .f32⟩
  | .local _ .vmem, ⟨14, _⟩ => ⟨S8x512, .f32⟩
  | .local _ .smem, ⟨0, _⟩ => ⟨S1, .f32⟩
  | .local _ .smem, ⟨1, _⟩ => ⟨S1, .f32⟩
  | _, _ => ⟨S2x128x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![72], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c71_i32 : BitVec 32 := 71#32
  let v56 : BitVec 1 := Scalar.cmpi .eq arg0 c71_i32
  let v57 : BitVec 32 := Scalar.extui v56
  let c0_i32_27 : BitVec 32 := 0#32
  let v58 : BitVec 1 := Scalar.cmpi .ne v57 c0_i32_27
  v58

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c72_i32 : BitVec 32 := 72#32
  let v0 : BitVec 32 := Scalar.addi arg0 c72_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c72_i32 : BitVec 32 := 72#32
  let v0 : BitVec 32 := Scalar.addi arg0 c72_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4608x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4608x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S256x4608 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S2x128x4608 : Shape := ⟨3, ![2, 128, 4608]⟩
abbrev S4608x73728 : Shape := ⟨2, ![4608, 73728]⟩
abbrev S73728 : Shape := ⟨1, ![73728]⟩
abbrev S1 : Shape := ⟨1, ![1]⟩
abbrev S2x128x36864 : Shape := ⟨3, ![2, 128, 36864]⟩
abbrev S1x2x128x4608 : Shape := ⟨4, ![1, 2, 128, 4608]⟩
abbrev S1x1x1x1 : Shape := ⟨4, ![1, 1, 1, 1]⟩
abbrev S1x1x1 : Shape := ⟨3, ![1, 1, 1]⟩
abbrev S2x128x73728 : Shape := ⟨3, ![2, 128, 73728]⟩
abbrev S1x1x73728 : Shape := ⟨3, ![1, 1, 73728]⟩
abbrev S1x2x128x36864 : Shape := ⟨4, ![1, 2, 128, 36864]⟩

abbrev nBuf : Space → Nat
  | .hbm => 9
  | .vmem => 9
  | .smem => 0
  | _ => 0

abbrev bufTy : (tb : Table) → Fin (tcTables nBuf tb) → BufTy
  | .hbm, ⟨0, _⟩ => ⟨S2x128x4608, .bf16⟩
  | .hbm, ⟨1, _⟩ => ⟨S4608x73728, .fp8e4m3⟩
  | .hbm, ⟨2, _⟩ => ⟨S73728, .f32⟩
  | .hbm, ⟨3, _⟩ => ⟨S1, .f32⟩
  | .hbm, ⟨4, _⟩ => ⟨S1, .f32⟩
  | .hbm, ⟨5, _⟩ => ⟨S2x128x36864, .fp8e4m3⟩
  | .hbm, ⟨6, _⟩ => ⟨S2x128x4608, .fp8e4m3⟩
  | .hbm, ⟨7, _⟩ => ⟨S1, .f32⟩
  | .hbm, ⟨8, _⟩ => ⟨S1, .f32⟩
  | .local _ .vmem, ⟨0, _⟩ => ⟨S2x128x4608, .bf16⟩
  | .local _ .vmem, ⟨1, _⟩ => ⟨S4608x73728, .fp8e4m3⟩
  | .local _ .vmem, ⟨2, _⟩ => ⟨S73728, .f32⟩
  | .local _ .vmem, ⟨3, _⟩ => ⟨S1, .f32⟩
  | .local _ .vmem, ⟨4, _⟩ => ⟨S1, .f32⟩
  | .local _ .vmem, ⟨5, _⟩ => ⟨S2x128x36864, .fp8e4m3⟩
  | .local _ .vmem, ⟨6, _⟩ => ⟨S2x128x4608, .fp8e4m3⟩
  | .local _ .vmem, ⟨7, _⟩ => ⟨S1, .f32⟩
  | .local _ .vmem, ⟨8, _⟩ => ⟨S1, .f32⟩
  | _, _ => ⟨S2x128x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2x128x4608 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4608x73728 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S73728 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x36864 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x128x4608 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.MachineRuns.lean ====
module

public import proofs.«01_k».proof.Proof.Gen.Kernel.Skeleton
public import proofs.«01_k».proof.Proof.Gen.Kernel.Frame
public import Idealize.ShloMosaic.Lib.VecWindow

@[expose] public section

set_option maxRecDepth 16384

/-! What one grid point does to its buffers, as three triples of the body (first point, a point between, last point),
each with the contents it leaves written out as payloads of the contents it found. -/

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one word of a scalar buffer. -/
def word (x : Vec F S1 .f32) : Elt F .f32 := x (fun a => ⟨0, by revert a; decide⟩)

/-- What a point leaves in its block of the quantised result: from the quantised activations `xq`, the two scale words
    and the point's weight and scale blocks. -/
def hq (x0 x1 : Vec F S1 .f32) (xq : Vec F S256x4608 .fp8e4m3) (wg wu : Vec F S4608x512 .fp8e4m3) (sg su : Vec F S1x512 .f32) :
    Vec F S256x512 .fp8e4m3 :=
  k0_pay3 (k0_pay10 (word x1)) (k0_pay11 xq (word x0) wg sg) (k0_pay12 xq (word x0) wu su) (k0_pay13 xq (word x0) wg sg) k0_pay14

/-- The running column maxima after a point, from those before it. -/
def amaxStep (x0 : Vec F S1 .f32) (xq : Vec F S256x4608 .fp8e4m3) (wg wu : Vec F S4608x512 .fp8e4m3) (sg su : Vec F S1x512 .f32)
    (a : Vec F S8x512 .f32) : Vec F S8x512 .f32 :=
  k0_pay2 (k0_pay11 xq (word x0) wg sg) (k0_pay12 xq (word x0) wu su) (k0_pay13 xq (word x0) wg sg) k0_pay14 a

/-- A load of a whole buffer that holds `x` reads `x`. -/
theorem load_whole {sp : Space} {s : Shape} {e : EltTy} {arg : Memref sig .tc sp s e} (h : arg.IsWhole) (x : Vec F s e)
    {off : Fin s.rank → ℕ} (inb : ∀ a, off a + s.size a ≤ s.size a) :
    arg.view.readAt (Elt F) (Rect.unit off s.size inb).toLoadRect (h.unread x) = x :=
  (View.readAt_full _ _ _).trans (h.read_unread x)

/-- The block of the quantised result, from values equal to those it is stated over. -/
theorem hq_of {x0 x1 : Vec F S1 .f32} {xq a a' a'' : Vec F S256x4608 .fp8e4m3} {wg wu g g' u : Vec F S4608x512 .fp8e4m3}
    {sg su p p' r : Vec F S1x512 .f32} {w0 w0' w0'' w1 : Elt F .f32} (h1 : w1 = word x1) (ha : a = xq) (h0 : w0 = word x0) (hg : g = wg) (hp : p = sg)
    (ha' : a' = xq) (h0' : w0' = word x0) (hu : u = wu) (hr : r = su) (ha'' : a'' = xq) (h0'' : w0'' = word x0) (hg' : g' = wg) (hp' : p' = sg) :
    k0_pay3 (k0_pay10 w1) (k0_pay11 a w0 g p) (k0_pay12 a' w0' u r) (k0_pay13 a'' w0'' g' p') k0_pay14 = hq x0 x1 xq wg wu sg su := by
  subst h1 ha h0 hg hp ha' h0' hu hr ha'' h0'' hg' hp'; rfl

/-- The running maxima likewise. -/
theorem amaxStep_of {x0 : Vec F S1 .f32} {xq a a' a'' : Vec F S256x4608 .fp8e4m3} {wg wu g g' u : Vec F S4608x512 .fp8e4m3}
    {sg su p p' r : Vec F S1x512 .f32} {w0 w0' w0'' : Elt F .f32} {y z : Vec F S8x512 .f32} (ha : a = xq) (h0 : w0 = word x0) (hg : g = wg) (hp : p = sg)
    (ha' : a' = xq) (h0' : w0' = word x0) (hu : u = wu) (hr : r = su) (ha'' : a'' = xq) (h0'' : w0'' = word x0) (hg' : g' = wg) (hp' : p' = sg) (hy : y = z) :
    k0_pay2 (k0_pay11 a w0 g p) (k0_pay12 a' w0' u r) (k0_pay13 a'' w0'' g' p') k0_pay14 y = amaxStep x0 xq wg wu sg su z := by
  subst ha h0 hg hp ha' h0' hu hr ha'' h0'' hg' hp' hy; rfl

set_option maxHeartbeats 1000000 in
/-- The first point: it quantises the activations and takes their largest magnitude, clears the running maxima, and does its block; the last result is untouched. -/
theorem run_first (c : Dev nD) (i : grid0.Coords) (arg1 : Memref sig .tc .smem S1 .f32) (harg1 : arg1.IsWhole) (arg2 : Memref sig .tc .smem S1 .f32) (harg2 : arg2.IsWhole) (arg3 : Memref sig .tc .vmem S256x4608 .bf16) (harg3 : arg3.IsWhole) (arg4 : Memref sig .tc .vmem S4608x512 .fp8e4m3) (harg4 : arg4.IsWhole) (arg5 : Memref sig .tc .vmem S4608x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S256x512 .fp8e4m3) (harg8 : arg8.IsWhole) (arg9 : Memref sig .tc .vmem S256x4608 .fp8e4m3) (harg9 : arg9.IsWhole) (arg10 : Memref sig .tc .vmem S1x1 .f32) (harg10 : arg10.IsWhole) (arg11 : Memref sig .tc .vmem S1x1 .f32) (harg11 : arg11.IsWhole) (arg12 : Memref sig .tc .vmem S8x512 .f32) (harg12 : arg12.IsWhole)
    (hc0 : k0_cond1 i = 1#1) (hc1 : ¬ k0_cond2 i = 1#1)
    (x0 x1 : Vec F S1 .f32) (x2 : Vec F S256x4608 .bf16) (x3 x4 : Vec F S4608x512 .fp8e4m3) (x5 x6 : Vec F S1x512 .f32) (y10 : Vec F S1x1 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare y10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (hq x0 x1 (k0_pay6 x2 (word x0)) x3 x4 x5 x6) ∗ owns (c : Thread nD τ) arg9 fullShare (k0_pay6 x2 (word x0)) ∗ owns (c : Thread nD τ) arg10 fullShare (k0_pay7 x2) ∗ owns (c : Thread nD τ) arg11 fullShare y10 ∗ owns (c : Thread nD τ) arg12 fullShare (amaxStep x0 (k0_pay6 x2 (word x0)) x3 x4 x5 x6 k0_pay8)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  simp only [k0_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%d12, %f12, -, H12⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg11.eq_unread hf11
  sl_exec (disch := first | sl_exact hc0 | sl_exact hc1)
  sl_step
  iapply Hk
  isplitl [H1]
  · iexists _; isplitr
    on_goal 2 => iexact H1
    ipureintro; exact harg1.read_unread _
  isplitl [H2]
  · iexists _; isplitr
    on_goal 2 => iexact H2
    ipureintro; exact harg2.read_unread _
  isplitl [H3]
  · iexists _; isplitr
    on_goal 2 => iexact H3
    ipureintro; exact harg3.read_unread _
  isplitl [H4]
  · iexists _; isplitr
    on_goal 2 => iexact H4
    ipureintro; exact harg4.read_unread _
  isplitl [H5]
  · iexists _; isplitr
    on_goal 2 => iexact H5
    ipureintro; exact harg5.read_unread _
  isplitl [H6]
  · iexists _; isplitr
    on_goal 2 => iexact H6
    ipureintro; exact harg6.read_unread _
  isplitl [H7]
  · iexists _; isplitr
    on_goal 2 => iexact H7
    ipureintro; exact harg7.read_unread _
  isplitl [H8]
  · iexists _; isplitr
    on_goal 2 => iexact H8
    ipureintro; exact (View.read_writes_full _ _ _ _ _).trans (hq_of (congrFun (load_whole harg2 _ _) _) ((View.readCov_full _ _ _ _ _).trans (congrArg₂ k0_pay6 (load_whole harg3 _ _) (congrFun (load_whole harg1 _ _) _))) (congrFun (load_whole harg1 _ _) _) (load_whole harg4 _ _) (load_whole harg6 _ _) ((View.readCov_full _ _ _ _ _).trans (congrArg₂ k0_pay6 (load_whole harg3 _ _) (congrFun (load_whole harg1 _ _) _))) (congrFun (load_whole harg1 _ _) _) (load_whole harg5 _ _) (load_whole harg7 _ _) ((View.readCov_full _ _ _ _ _).trans (congrArg₂ k0_pay6 (load_whole harg3 _ _) (congrFun (load_whole harg1 _ _) _))) (congrFun (load_whole harg1 _ _) _) (load_whole harg4 _ _) (load_whole harg6 _ _))
  isplitl [H9]
  · iexists _; isplitr
    on_goal 2 => iexact H9
    ipureintro; exact (View.read_writes_full _ _ _ _ _).trans (congrArg₂ k0_pay6 (load_whole harg3 _ _) (congrFun (load_whole harg1 _ _) _))
  isplitl [H10]
  · iexists _; isplitr
    on_goal 2 => iexact H10
    ipureintro; exact (View.read_writes_full _ _ _ _ _).trans (congrArg k0_pay7 (load_whole harg3 _ _))
  isplitl [H11]
  · iexists _; isplitr
    on_goal 2 => iexact H11
    ipureintro; exact harg11.read_unread _
  iexists _; isplitr
  on_goal 2 => iexact H12
  ipureintro; exact (View.read_writes_full _ _ _ _ _).trans (amaxStep_of ((View.readCov_full _ _ _ _ _).trans (congrArg₂ k0_pay6 (load_whole harg3 _ _) (congrFun (load_whole harg1 _ _) _))) (congrFun (load_whole harg1 _ _) _) (load_whole harg4 _ _) (load_whole harg6 _ _) ((View.readCov_full _ _ _ _ _).trans (congrArg₂ k0_pay6 (load_whole harg3 _ _) (congrFun (load_whole harg1 _ _) _))) (congrFun (load_whole harg1 _ _) _) (load_whole harg5 _ _) (load_whole harg7 _ _) ((View.readCov_full _ _ _ _ _).trans (congrArg₂ k0_pay6 (load_whole harg3 _ _) (congrFun (load_whole harg1 _ _) _))) (congrFun (load_whole harg1 _ _) _) (load_whole harg4 _ _) (load_whole harg6 _ _) (View.readCov_full _ _ _ _ _))

set_option maxHeartbeats 1000000 in
/-- A point between: it does its block from the quantised activations it finds; the three other results are untouched. -/
theorem run_mid (c : Dev nD) (i : grid0.Coords) (arg1 : Memref sig .tc .smem S1 .f32) (harg1 : arg1.IsWhole) (arg2 : Memref sig .tc .smem S1 .f32) (harg2 : arg2.IsWhole) (arg3 : Memref sig .tc .vmem S256x4608 .bf16) (harg3 : arg3.IsWhole) (arg4 : Memref sig .tc .vmem S4608x512 .fp8e4m3) (harg4 : arg4.IsWhole) (arg5 : Memref sig .tc .vmem S4608x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S256x512 .fp8e4m3) (harg8 : arg8.IsWhole) (arg9 : Memref sig .tc .vmem S256x4608 .fp8e4m3) (harg9 : arg9.IsWhole) (arg10 : Memref sig .tc .vmem S1x1 .f32) (harg10 : arg10.IsWhole) (arg11 : Memref sig .tc .vmem S1x1 .f32) (harg11 : arg11.IsWhole) (arg12 : Memref sig .tc .vmem S8x512 .f32) (harg12 : arg12.IsWhole)
    (hc0 : ¬ k0_cond1 i = 1#1) (hc1 : ¬ k0_cond2 i = 1#1)
    (x0 x1 : Vec F S1 .f32) (x2 : Vec F S256x4608 .bf16) (x3 x4 : Vec F S4608x512 .fp8e4m3) (x5 x6 : Vec F S1x512 .f32) (y8 : Vec F S256x4608 .fp8e4m3) (y9 : Vec F S1x1 .f32) (y10 : Vec F S1x1 .f32) (a : Vec F S8x512 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare y8 ∗ owns (c : Thread nD τ) arg10 fullShare y9 ∗ owns (c : Thread nD τ) arg11 fullShare y10 ∗ owns (c : Thread nD τ) arg12 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (hq x0 x1 y8 x3 x4 x5 x6) ∗ owns (c : Thread nD τ) arg9 fullShare y8 ∗ owns (c : Thread nD τ) arg10 fullShare y9 ∗ owns (c : Thread nD τ) arg11 fullShare y10 ∗ owns (c : Thread nD τ) arg12 fullShare (amaxStep x0 y8 x3 x4 x5 x6 a)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  simp only [k0_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%f12, %hf12, H12⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hf9; obtain rfl := harg10.eq_unread hf10; obtain rfl := harg11.eq_unread hf11; obtain rfl := harg12.eq_unread hf12
  sl_exec (disch := first | sl_exact hc0 | sl_exact hc1)
  sl_step
  iapply Hk
  isplitl [H1]
  · iexists _; isplitr
    on_goal 2 => iexact H1
    ipureintro; exact harg1.read_unread _
  isplitl [H2]
  · iexists _; isplitr
    on_goal 2 => iexact H2
    ipureintro; exact harg2.read_unread _
  isplitl [H3]
  · iexists _; isplitr
    on_goal 2 => iexact H3
    ipureintro; exact harg3.read_unread _
  isplitl [H4]
  · iexists _; isplitr
    on_goal 2 => iexact H4
    ipureintro; exact harg4.read_unread _
  isplitl [H5]
  · iexists _; isplitr
    on_goal 2 => iexact H5
    ipureintro; exact harg5.read_unread _
  isplitl [H6]
  · iexists _; isplitr
    on_goal 2 => iexact H6
    ipureintro; exact harg6.read_unread _
  isplitl [H7]
  · iexists _; isplitr
    on_goal 2 => iexact H7
    ipureintro; exact harg7.read_unread _
  isplitl [H8]
  · iexists _; isplitr
    on_goal 2 => iexact H8
    ipureintro; exact (View.read_writes_full _ _ _ _ _).trans (hq_of (congrFun (load_whole harg2 _ _) _) (load_whole harg9 _ _) (congrFun (load_whole harg1 _ _) _) (load_whole harg4 _ _) (load_whole harg6 _ _) (load_whole harg9 _ _) (congrFun (load_whole harg1 _ _) _) (load_whole harg5 _ _) (load_whole harg7 _ _) (load_whole harg9 _ _) (congrFun (load_whole harg1 _ _) _) (load_whole harg4 _ _) (load_whole harg6 _ _))
  isplitl [H9]
  · iexists _; isplitr
    on_goal 2 => iexact H9
    ipureintro; exact harg9.read_unread _
  isplitl [H10]
  · iexists _; isplitr
    on_goal 2 => iexact H10
    ipureintro; exact harg10.read_unread _
  isplitl [H11]
  · iexists _; isplitr
    on_goal 2 => iexact H11
    ipureintro; exact harg11.read_unread _
  iexists _; isplitr
  on_goal 2 => iexact H12
  ipureintro; exact (View.read_writes_full _ _ _ _ _).trans (amaxStep_of (load_whole harg9 _ _) (congrFun (load_whole harg1 _ _) _) (load_whole harg4 _ _) (load_whole harg6 _ _) (load_whole harg9 _ _) (congrFun (load_whole harg1 _ _) _) (load_whole harg5 _ _) (load_whole harg7 _ _) (load_whole harg9 _ _) (congrFun (load_whole harg1 _ _) _) (load_whole harg4 _ _) (load_whole harg6 _ _) (load_whole harg12 _ _))

set_option maxHeartbeats 1000000 in
/-- The last point: as a point between, and it leaves the largest of the running maxima in the last result. -/
theorem run_last (c : Dev nD) (i : grid0.Coords) (arg1 : Memref sig .tc .smem S1 .f32) (harg1 : arg1.IsWhole) (arg2 : Memref sig .tc .smem S1 .f32) (harg2 : arg2.IsWhole) (arg3 : Memref sig .tc .vmem S256x4608 .bf16) (harg3 : arg3.IsWhole) (arg4 : Memref sig .tc .vmem S4608x512 .fp8e4m3) (harg4 : arg4.IsWhole) (arg5 : Memref sig .tc .vmem S4608x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S256x512 .fp8e4m3) (harg8 : arg8.IsWhole) (arg9 : Memref sig .tc .vmem S256x4608 .fp8e4m3) (harg9 : arg9.IsWhole) (arg10 : Memref sig .tc .vmem S1x1 .f32) (harg10 : arg10.IsWhole) (arg11 : Memref sig .tc .vmem S1x1 .f32) (harg11 : arg11.IsWhole) (arg12 : Memref sig .tc .vmem S8x512 .f32) (harg12 : arg12.IsWhole)
    (hc0 : ¬ k0_cond1 i = 1#1) (hc1 : k0_cond2 i = 1#1)
    (x0 x1 : Vec F S1 .f32) (x2 : Vec F S256x4608 .bf16) (x3 x4 : Vec F S4608x512 .fp8e4m3) (x5 x6 : Vec F S1x512 .f32) (y8 : Vec F S256x4608 .fp8e4m3) (y9 : Vec F S1x1 .f32) (a : Vec F S8x512 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare y8 ∗ owns (c : Thread nD τ) arg10 fullShare y9 ∗ (∃ d, owns (c : Thread nD τ) arg11 fullShare d) ∗ owns (c : Thread nD τ) arg12 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (hq x0 x1 y8 x3 x4 x5 x6) ∗ owns (c : Thread nD τ) arg9 fullShare y8 ∗ owns (c : Thread nD τ) arg10 fullShare y9 ∗ owns (c : Thread nD τ) arg11 fullShare (k0_pay4 (amaxStep x0 y8 x3 x4 x5 x6 a)) ∗ owns (c : Thread nD τ) arg12 fullShare (amaxStep x0 y8 x3 x4 x5 x6 a)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  simp only [k0_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%d11, %f11, -, H11⟩, ⟨%f12, %hf12, H12⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hf9; obtain rfl := harg10.eq_unread hf10; obtain rfl := harg12.eq_unread hf12
  sl_exec (disch := first | sl_exact hc0 | sl_exact hc1)
  sl_step
  iapply Hk
  isplitl [H1]
  · iexists _; isplitr
    on_goal 2 => iexact H1
    ipureintro; exact harg1.read_unread _
  isplitl [H2]
  · iexists _; isplitr
    on_goal 2 => iexact H2
    ipureintro; exact harg2.read_unread _
  isplitl [H3]
  · iexists _; isplitr
    on_goal 2 => iexact H3
    ipureintro; exact harg3.read_unread _
  isplitl [H4]
  · iexists _; isplitr
    on_goal 2 => iexact H4
    ipureintro; exact harg4.read_unread _
  isplitl [H5]
  · iexists _; isplitr
    on_goal 2 => iexact H5
    ipureintro; exact harg5.read_unread _
  isplitl [H6]
  · iexists _; isplitr
    on_goal 2 => iexact H6
    ipureintro; exact harg6.read_unread _
  isplitl [H7]
  · iexists _; isplitr
    on_goal 2 => iexact H7
    ipureintro; exact harg7.read_unread _
  isplitl [H8]
  · iexists _; isplitr
    on_goal 2 => iexact H8
    ipureintro; exact (View.read_writes_full _ _ _ _ _).trans (hq_of (congrFun (load_whole harg2 _ _) _) (load_whole harg9 _ _) (congrFun (load_whole harg1 _ _) _) (load_whole harg4 _ _) (load_whole harg6 _ _) (load_whole harg9 _ _) (congrFun (load_whole harg1 _ _) _) (load_whole harg5 _ _) (load_whole harg7 _ _) (load_whole harg9 _ _) (congrFun (load_whole harg1 _ _) _) (load_whole harg4 _ _) (load_whole harg6 _ _))
  isplitl [H9]
  · iexists _; isplitr
    on_goal 2 => iexact H9
    ipureintro; exact harg9.read_unread _
  isplitl [H10]
  · iexists _; isplitr
    on_goal 2 => iexact H10
    ipureintro; exact harg10.read_unread _
  isplitl [H11]
  · iexists _; isplitr
    on_goal 2 => iexact H11
    ipureintro; exact (View.read_writes_full _ _ _ _ _).trans (congrArg k0_pay4 ((View.readCov_full _ _ _ _ _).trans (amaxStep_of (load_whole harg9 _ _) (congrFun (load_whole harg1 _ _) _) (load_whole harg4 _ _) (load_whole harg6 _ _) (load_whole harg9 _ _) (congrFun (load_whole harg1 _ _) _) (load_whole harg5 _ _) (load_whole harg7 _ _) (load_whole harg9 _ _) (congrFun (load_whole harg1 _ _) _) (load_whole harg4 _ _) (load_whole harg6 _ _) (load_whole harg12 _ _))))
  iexists _; isplitr
  on_goal 2 => iexact H12
  ipureintro; exact (View.read_writes_full _ _ _ _ _).trans (amaxStep_of (load_whole harg9 _ _) (congrFun (load_whole harg1 _ _) _) (load_whole harg4 _ _) (load_whole harg6 _ _) (load_whole harg9 _ _) (congrFun (load_whole harg1 _ _) _) (load_whole harg5 _ _) (load_whole harg7 _ _) (load_whole harg9 _ _) (congrFun (load_whole harg1 _ _) _) (load_whole harg4 _ _) (load_whole harg6 _ _) (load_whole harg12 _ _))

end Cert.Kernel.Body

end
-- ==== Proof.MachineLaunch.lean ====
module

public import proofs.«01_k».proof.Proof.MachineRuns
public import Idealize.ShloMosaic.Lib.Pipeline.TableIdle
public import Idealize.ShloMosaic.Lib.Claim

@[expose] public section

set_option maxRecDepth 16384

/-! The region's proof data — what every window's buffer and the running maxima hold after every grid point —, the
body obligation at a generic point, and the run of the whole program: it ends with the arguments unchanged, the
counters at zero, and every array at what the proof data compute. -/

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two conditions, and where windows are idle -/

/-- The region has 72 points. -/
theorem lt72 (t : Fin cfg0.N) : t.val < 72 := lt_of_lt_of_eq t.isLt N_0

/-- The first condition holds at point 0 only. -/
theorem cond1_iff : ∀ t : Fin cfg0.N, k0_cond1 (grid0.coords t) = 1#1 ↔ t.val = 0 :=
  (fun t => by
    have ht : t.val < 72 := Nat.lt_of_lt_of_eq t.isLt N_0
    have e0 : (grid0.coords t 0).val = t.val / 1 % 72 := Pipeline.Grid.coords_val t 0 (by decide) rfl
    simp only [k0_cond1, e0]
    word_cmp
   : ∀ t : Fin grid0.N, k0_cond1 (grid0.coords t) = 1#1 ↔ t.val = 0)

/-- The second holds at point 71 only. -/
theorem cond2_iff : ∀ t : Fin cfg0.N, k0_cond2 (grid0.coords t) = 1#1 ↔ t.val = 71 :=
  (fun t => by
    have ht : t.val < 72 := Nat.lt_of_lt_of_eq t.isLt N_0
    have e0 : (grid0.coords t 0).val = t.val / 1 % 72 := Pipeline.Grid.coords_val t 0 (by decide) rfl
    simp only [k0_cond2, e0]
    word_cmp
   : ∀ t : Fin grid0.N, k0_cond2 (grid0.coords t) = 1#1 ↔ t.val = 71)

/-- Windows 8 and 9 are idle where the first condition fails, window 10 where the second does. -/
theorem idle8 (t : Fin cfg0.N) : cfg0.idle 8 (cfg0.grid.coords t) = !(k0_cond1 (grid0.coords t) == 1#1) := rfl
/-- When window 9 is left alone by the body. -/
theorem idle9 (t : Fin cfg0.N) : cfg0.idle 9 (cfg0.grid.coords t) = !(k0_cond1 (grid0.coords t) == 1#1) := rfl
/-- When window 10 is left alone by the body. -/
theorem idle10 (t : Fin cfg0.N) : cfg0.idle 10 (cfg0.grid.coords t) = !(k0_cond2 (grid0.coords t) == 1#1) := rfl

/-- When window 8 is left alone by the body, by the number of the point. -/
theorem idle8_eq (t : Fin cfg0.N) : cfg0.idle 8 (cfg0.grid.coords t) = decide (t.val ≠ 0) := by
  rw [idle8, Bool.eq_iff_iff]; simp [cond1_iff t]
/-- When window 9 is left alone by the body, by the number of the point. -/
theorem idle9_eq (t : Fin cfg0.N) : cfg0.idle 9 (cfg0.grid.coords t) = decide (t.val ≠ 0) := by
  rw [idle9, Bool.eq_iff_iff]; simp [cond1_iff t]
/-- When window 10 is left alone by the body, by the number of the point. -/
theorem idle10_eq (t : Fin cfg0.N) : cfg0.idle 10 (cfg0.grid.coords t) = decide (t.val ≠ 71) := by
  rw [idle10, Bool.eq_iff_iff]; simp [cond2_iff t]

/-- Window 8 is written out at the last point only. -/
theorem flush8_eq (t : Fin cfg0.N) : (cfg0.win 8).flush t = decide (t.val = 71) := by
  have := lt72 t
  rw [Bool.eq_iff_iff, flush0_8 t, decide_eq_true_iff]; omega
/-- Window 9 is written out at the last point only. -/
theorem flush9_eq (t : Fin cfg0.N) : (cfg0.win 9).flush t = decide (t.val = 71) := by
  have := lt72 t
  rw [Bool.eq_iff_iff, flush0_9 t, decide_eq_true_iff]; omega
/-- Window 10 is written out at the last point only. -/
theorem flush10_eq (t : Fin cfg0.N) : (cfg0.win 10).flush t = decide (t.val = 71) := by
  have := lt72 t
  rw [Bool.eq_iff_iff, flush0_10 t, decide_eq_true_iff]; omega

/-- After the first point and up to the last, what the first point stored in window 8's buffer is still
    there. -/
theorem fresh8 : ∀ n : ℕ, n ≤ 70 → cfg0.fresh 8 (n + 1) = false
  | 0, _ => by
    have h : 0 < cfg0.N := by rw [show cfg0.N = 72 from N_0]; decide
    rw [Cfg.fresh_succ _ _ 0 h, flush8_eq, idle8_eq]; rfl
  | n + 1, hn => by
    have h : n + 1 < cfg0.N := by rw [show cfg0.N = 72 from N_0]; omega
    rw [Cfg.fresh_succ _ _ (n + 1) h, flush8_eq, fresh8 n (by omega), Bool.and_false, Bool.or_false]
    exact decide_eq_false (by dsimp only; omega)
/-- The same for window 9. -/
theorem fresh9 : ∀ n : ℕ, n ≤ 70 → cfg0.fresh 9 (n + 1) = false
  | 0, _ => by
    have h : 0 < cfg0.N := by rw [show cfg0.N = 72 from N_0]; decide
    rw [Cfg.fresh_succ _ _ 0 h, flush9_eq, idle9_eq]; rfl
  | n + 1, hn => by
    have h : n + 1 < cfg0.N := by rw [show cfg0.N = 72 from N_0]; omega
    rw [Cfg.fresh_succ _ _ (n + 1) h, flush9_eq, fresh9 n (by omega), Bool.and_false, Bool.or_false]
    exact decide_eq_false (by dsimp only; omega)

/-! ## What the buffers hold after each point -/

/-- The first point. -/
def p0 : Fin cfg0.N := ⟨0, by rw [show cfg0.N = 72 from N_0]; decide⟩

/-- The quantised activations, as the first point leaves them. -/
def xq (c : Dev nD) : Vec F S256x4608 .fp8e4m3 := k0_pay6 (iblk m c 2 p0) (word (iblk m c 0 p0))

/-- The running column maxima after point `n`. -/
def amax (c : Dev nD) : (n : ℕ) → n < cfg0.N → Vec F S8x512 .f32
  | 0, h => amaxStep (iblk m c 0 ⟨0, h⟩) (xq m c) (iblk m c 3 ⟨0, h⟩) (iblk m c 4 ⟨0, h⟩) (iblk m c 5 ⟨0, h⟩) (iblk m c 6 ⟨0, h⟩) k0_pay8
  | n + 1, h => amaxStep (iblk m c 0 ⟨n + 1, h⟩) (xq m c) (iblk m c 3 ⟨n + 1, h⟩) (iblk m c 4 ⟨n + 1, h⟩) (iblk m c 5 ⟨n + 1, h⟩)
      (iblk m c 6 ⟨n + 1, h⟩) (amax c n (Nat.lt_of_succ_lt h))

/-- One step of them, at a point that is not the first. -/
theorem amax_pos (c : Dev nD) (t : Fin cfg0.N) (ht : t.val ≠ 0) :
    amax m c t.val t.isLt = amaxStep (iblk m c 0 t) (xq m c) (iblk m c 3 t) (iblk m c 4 t) (iblk m c 5 t) (iblk m c 6 t)
      (amax m c (t.val - 1) (Nat.lt_of_le_of_lt (Nat.sub_le _ _) t.isLt)) := by
  obtain ⟨n, hn⟩ := t
  cases n with
  | zero => exact absurd rfl ht
  | succ n => rfl

/-- The region invariant before position `n`: at the first, the scratch at anything; later, the running maxima of the
    point before. -/
def PhiS (c : Dev nD) : (n : ℕ) → n ≤ cfg0.N → sProp 𝕄
  | 0, _ => Pipeline.ΦA spec0 c
  | n + 1, hn => iprop(iprop(owns (c : Thread nD τ) (Memref.whole cc0_scratch0) fullShare (amax m c n hn)) ∗ (∃ r, prngReg c r))

/-- Before the first point nothing is known of the scratch buffer. -/
theorem PhiS_zero (c : Dev nD) (n : ℕ) (h : n ≤ cfg0.N) (hz : n = 0) : PhiS m c n h = Pipeline.ΦA spec0 c := by
  subst hz; rfl

/-- After point `n` the scratch buffer holds the running maxima through `n`. -/
theorem PhiS_succ (c : Dev nD) (n : ℕ) (hn : n < cfg0.N) :
    PhiS m c (n + 1) hn = iprop(iprop(owns (c : Thread nD τ) (Memref.whole cc0_scratch0) fullShare (amax m c n hn)) ∗ (∃ r, prngReg c r)) := rfl

/-- The same, for a positive position. -/
theorem PhiS_pos (c : Dev nD) (n : ℕ) (h : n ≤ cfg0.N) (hz : n ≠ 0) :
    PhiS m c n h = iprop(iprop(owns (c : Thread nD τ) (Memref.whole cc0_scratch0) fullShare (amax m c (n - 1) (by omega))) ∗ (∃ r, prngReg c r)) := by
  cases n with
  | zero => exact absurd rfl hz
  | succ n => rfl

/-- The class's invariant with the scratch as a memref owned at some contents. -/
theorem PhiA_eq (c : Dev nD) :
    (Pipeline.ΦA spec0 c : sProp 𝕄)
      = iprop(iprop((∃ d, owns (c : Thread nD τ) (Memref.whole cc0_scratch0) fullShare d)) ∗ (∃ r, prngReg c r)) := by
  unfold Pipeline.ΦA; rw [scopedRest0_eq]; simp only [owns_whole]; try rfl

/-- The proof data of the one pipeline on core `c`: after the body at point `t`, each input's buffer at its block; the
    quantised result's at its block of it; the quantised activations, their largest magnitude and the largest running
    maximum in the three others. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => hq (iblk m c 0 t) (iblk m c 1 t) (xq m c) (iblk m c 3 t) (iblk m c 4 t) (iblk m c 5 t) (iblk m c 6 t)
    | ⟨8, _⟩ => xq m c
    | ⟨9, _⟩ => k0_pay7 (iblk m c 2 p0)
    | ⟨10, _⟩ => k0_pay4 (amax m c t.val t.isLt)
  Φ t := PhiS m c t.val (Nat.le_of_lt_succ t.isLt)
  q w := Pipeline.shareOf spec0 w
  owed _ := 0

/-- The array a window reads is the one the launch finds there. -/
theorem A_eq (c : Dev nD) (w : Fin cfg0.W) : (dats m 0 c).A w = V m c (Pipeline.arrRef spec0 w) := by
  dsimp only [dats]

/-- The scratch invariant at the position before point `t`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-! What the body leaves, window by window. -/

theorem after0 (c : Dev nD) (t : Fin cfg0.N) : (dats m 0 c).after 0 t = iblk m c 0 t := by dsimp only [dats]
/-- What window 1 holds after the body at point `t`. -/
theorem after1 (c : Dev nD) (t : Fin cfg0.N) : (dats m 0 c).after 1 t = iblk m c 1 t := by dsimp only [dats]
/-- What window 2 holds after the body at point `t`. -/
theorem after2 (c : Dev nD) (t : Fin cfg0.N) : (dats m 0 c).after 2 t = iblk m c 2 t := by dsimp only [dats]
/-- What window 3 holds after the body at point `t`. -/
theorem after3 (c : Dev nD) (t : Fin cfg0.N) : (dats m 0 c).after 3 t = iblk m c 3 t := by dsimp only [dats]
/-- What window 4 holds after the body at point `t`. -/
theorem after4 (c : Dev nD) (t : Fin cfg0.N) : (dats m 0 c).after 4 t = iblk m c 4 t := by dsimp only [dats]
/-- What window 5 holds after the body at point `t`. -/
theorem after5 (c : Dev nD) (t : Fin cfg0.N) : (dats m 0 c).after 5 t = iblk m c 5 t := by dsimp only [dats]
/-- What window 6 holds after the body at point `t`. -/
theorem after6 (c : Dev nD) (t : Fin cfg0.N) : (dats m 0 c).after 6 t = iblk m c 6 t := by dsimp only [dats]
/-- What window 7 holds after the body at point `t`. -/
theorem after7 (c : Dev nD) (t : Fin cfg0.N) : (dats m 0 c).after 7 t = hq (iblk m c 0 t) (iblk m c 1 t) (xq m c) (iblk m c 3 t) (iblk m c 4 t) (iblk m c 5 t) (iblk m c 6 t) := by dsimp only [dats]
/-- What window 8 holds after the body at point `t`. -/
theorem after8 (c : Dev nD) (t : Fin cfg0.N) : (dats m 0 c).after 8 t = xq m c := by dsimp only [dats]
/-- What window 9 holds after the body at point `t`. -/
theorem after9 (c : Dev nD) (t : Fin cfg0.N) : (dats m 0 c).after 9 t = k0_pay7 (iblk m c 2 p0) := by dsimp only [dats]
/-- What window 10 holds after the body at point `t`. -/
theorem after10 (c : Dev nD) (t : Fin cfg0.N) : (dats m 0 c).after 10 t = k0_pay4 (amax m c t.val t.isLt) := by dsimp only [dats]

/-! What the body finds: an input's block; after the first point, the first point's contents of windows 8 and 9. -/

theorem before0 (c : Dev nD) (t : Fin cfg0.N) (d) : (dats m 0 c).before 0 t d = iblk m c 0 t :=
  before0_0_of m (dats m 0 c) (A_eq m c 0) (after0 m c) t d
/-- What window 1 holds before the body at point `t`. -/
theorem before1 (c : Dev nD) (t : Fin cfg0.N) (d) : (dats m 0 c).before 1 t d = iblk m c 1 t :=
  before0_1_of m (dats m 0 c) (A_eq m c 1) (after1 m c) t d
/-- What window 2 holds before the body at point `t`. -/
theorem before2 (c : Dev nD) (t : Fin cfg0.N) (d) : (dats m 0 c).before 2 t d = iblk m c 2 t :=
  before0_2_of m (dats m 0 c) (A_eq m c 2) (after2 m c) t d
/-- What window 3 holds before the body at point `t`. -/
theorem before3 (c : Dev nD) (t : Fin cfg0.N) (d) : (dats m 0 c).before 3 t d = iblk m c 3 t :=
  before0_3_of m (dats m 0 c) (A_eq m c 3) (after3 m c) t d
/-- What window 4 holds before the body at point `t`. -/
theorem before4 (c : Dev nD) (t : Fin cfg0.N) (d) : (dats m 0 c).before 4 t d = iblk m c 4 t :=
  before0_4_of m (dats m 0 c) (A_eq m c 4) (after4 m c) t d
/-- What window 5 holds before the body at point `t`. -/
theorem before5 (c : Dev nD) (t : Fin cfg0.N) (d) : (dats m 0 c).before 5 t d = iblk m c 5 t :=
  before0_5_of m (dats m 0 c) (A_eq m c 5) (after5 m c) t d
/-- What window 6 holds before the body at point `t`. -/
theorem before6 (c : Dev nD) (t : Fin cfg0.N) (d) : (dats m 0 c).before 6 t d = iblk m c 6 t :=
  before0_6_of m (dats m 0 c) (A_eq m c 6) (after6 m c) t d
/-- What window 8 holds before the body at point `t`. -/
theorem before8 (c : Dev nD) (t : Fin cfg0.N) (ht : t.val ≠ 0) (d) : (dats m 0 c).before 8 t d = xq m c := by
  have hf : cfg0.fresh 8 t.val = false := by
    have h := fresh8 (t.val - 1) (by have := lt72 t; omega)
    rwa [Nat.sub_add_cancel (Nat.pos_of_ne_zero ht)] at h
  rw [Dat.before_out_traj (dats m 0 c) 8 rfl (fun _ _ => rfl) (fun s hs _ _ => by rw [after8, after8]) t.val t rfl d, hf]
  exact after8 m c _
/-- What window 9 holds before the body at point `t`. -/
theorem before9 (c : Dev nD) (t : Fin cfg0.N) (ht : t.val ≠ 0) (d) : (dats m 0 c).before 9 t d = k0_pay7 (iblk m c 2 p0) := by
  have hf : cfg0.fresh 9 t.val = false := by
    have h := fresh9 (t.val - 1) (by have := lt72 t; omega)
    rwa [Nat.sub_add_cancel (Nat.pos_of_ne_zero ht)] at h
  rw [Dat.before_out_traj (dats m 0 c) 9 rfl (fun _ _ => rfl) (fun s hs _ _ => by rw [after9, after9]) t.val t rfl d, hf]
  exact after9 m c _

/-- A window written back at a point is left at its contents there, idle or not. -/
theorem leaves_flush (c : Dev nD) (w : Fin cfg0.W) (t : Fin cfg0.N) (hf : (cfg0.win w).flush t = true) :
    (dats m 0 c).leavesExact w t = owns (c : Thread nD τ) ((cfg0.win w).stage (cfg0.slots t w)) fullShare ((dats m 0 c).after w t) := by
  unfold Dat.leavesExact
  cases cfg0.idle w (cfg0.grid.coords t)
  · rfl
  · rw [hf]

/-- So is a window live there. -/
theorem leaves_live (c : Dev nD) (w : Fin cfg0.W) (t : Fin cfg0.N) (hi : cfg0.idle w (cfg0.grid.coords t) = false) :
    (dats m 0 c).leavesExact w t = owns (c : Thread nD τ) ((cfg0.win w).stage (cfg0.slots t w)) fullShare ((dats m 0 c).after w t) := by
  unfold Dat.leavesExact
  rw [hi]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) ((cfg0.win 0).stage (cfg0.slots t 0)) fullShare ((dats m 0 c).before 0 t d))
    ∗ (∃ d, owns (c : Thread nD τ) ((cfg0.win 1).stage (cfg0.slots t 1)) fullShare ((dats m 0 c).before 1 t d))
    ∗ (∃ d, owns (c : Thread nD τ) ((cfg0.win 2).stage (cfg0.slots t 2)) fullShare ((dats m 0 c).before 2 t d))
    ∗ (∃ d, owns (c : Thread nD τ) ((cfg0.win 3).stage (cfg0.slots t 3)) fullShare ((dats m 0 c).before 3 t d))
    ∗ (∃ d, owns (c : Thread nD τ) ((cfg0.win 4).stage (cfg0.slots t 4)) fullShare ((dats m 0 c).before 4 t d))
    ∗ (∃ d, owns (c : Thread nD τ) ((cfg0.win 5).stage (cfg0.slots t 5)) fullShare ((dats m 0 c).before 5 t d))
    ∗ (∃ d, owns (c : Thread nD τ) ((cfg0.win 6).stage (cfg0.slots t 6)) fullShare ((dats m 0 c).before 6 t d))
    ∗ (∃ d, owns (c : Thread nD τ) ((cfg0.win 7).stage (cfg0.slots t 7)) fullShare ((dats m 0 c).before 7 t d))
    ∗ (∃ d, owns (c : Thread nD τ) ((cfg0.win 8).stage (cfg0.slots t 8)) fullShare ((dats m 0 c).before 8 t d))
    ∗ (∃ d, owns (c : Thread nD τ) ((cfg0.win 9).stage (cfg0.slots t 9)) fullShare ((dats m 0 c).before 9 t d))
    ∗ (∃ d, owns (c : Thread nD τ) ((cfg0.win 10).stage (cfg0.slots t 10)) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 4000000 in
/-- The body at any point, by the triple of the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl,
    show (dats m 0 c).Φ t.succ = PhiS m c (t.val + 1) t.isLt from rfl, PhiS_succ, PhiS_castSucc m c t]
  rw [leaves_live m c 0 t rfl, after0]
  rw [leaves_live m c 1 t rfl, after1]
  rw [leaves_live m c 2 t rfl, after2]
  rw [leaves_live m c 3 t rfl, after3]
  rw [leaves_live m c 4 t rfl, after4]
  rw [leaves_live m c 5 t rfl, after5]
  rw [leaves_live m c 6 t rfl, after6]
  rw [leaves_live m c 7 t rfl, after7]
  have hN : t.val < 72 := lt72 t
  by_cases h0 : t.val = 0
  · have h1 : ¬ t.val = 71 := by omega
    obtain rfl : t = p0 := Fin.ext h0
    rw [leaves_live m c 8 _ (by rw [idle8_eq]; exact decide_eq_false fun h => h h0), after8,
      leaves_live m c 9 _ (by rw [idle9_eq]; exact decide_eq_false fun h => h h0), after9,
      Dat.leavesExact_idle (dats m 0 c) 10 _ (by rw [idle10_eq]; exact decide_eq_true h1) (by rw [flush10_eq]; exact decide_eq_false h1)]
    rw [PhiS_zero m c _ _ h0, PhiA_eq]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_first c (grid0.coords p0) _ _ _ _ _ _ _ _ _ _ _ _ _ _ _ _ _ _ _ _ _ _ _ _ ((cond1_iff p0).mpr h0) (fun h => h1 ((cond2_iff p0).mp h)) (iblk m c 0 p0) (iblk m c 1 p0) (iblk m c 2 p0) (iblk m c 3 p0) (iblk m c 4 p0) (iblk m c 5 p0) (iblk m c 6 p0) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexact H10
    isplitl [HS0]; · iexact HS0
    iintro ⟨H0, H1, H2, H3, H4, H5, H6, H7, H8, H9, H10, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists d10; iexact H10
  · by_cases h1 : t.val = 71
    · rw [leaves_flush m c 8 t (by rw [flush8_eq]; exact decide_eq_true h1), after8,
        leaves_flush m c 9 t (by rw [flush9_eq]; exact decide_eq_true h1), after9,
        leaves_flush m c 10 t (by rw [flush10_eq]; exact decide_eq_true h1), after10]
      simp only [before8 m c t h0, before9 m c t h0]
      rw [PhiS_pos m c _ _ h0, amax_pos m c t h0]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run_last c (grid0.coords t) _ _ _ _ _ _ _ _ _ _ _ _ _ _ _ _ _ _ _ _ _ _ _ _ (fun h => h0 ((cond1_iff t).mp h)) ((cond2_iff t).mpr h1) (iblk m c 0 t) (iblk m c 1 t) (iblk m c 2 t) (iblk m c 3 t) (iblk m c 4 t) (iblk m c 5 t) (iblk m c 6 t) (xq m c) (k0_pay7 (iblk m c 2 p0)) (amax m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [H10]; · iexists _; iexact H10
      isplitl [HS0]; · iexact HS0
      iintro ⟨H0, H1, H2, H3, H4, H5, H6, H7, H8, H9, H10, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · rw [Dat.leavesExact_idle (dats m 0 c) 8 t (by rw [idle8_eq]; exact decide_eq_true h0) (by rw [flush8_eq]; exact decide_eq_false h1),
        Dat.leavesExact_idle (dats m 0 c) 9 t (by rw [idle9_eq]; exact decide_eq_true h0) (by rw [flush9_eq]; exact decide_eq_false h1),
        Dat.leavesExact_idle (dats m 0 c) 10 t (by rw [idle10_eq]; exact decide_eq_true h1) (by rw [flush10_eq]; exact decide_eq_false h1)]
      simp only [before8 m c t h0, before9 m c t h0]
      rw [PhiS_pos m c _ _ h0, amax_pos m c t h0]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run_mid c (grid0.coords t) _ _ _ _ _ _ _ _ _ _ _ _ _ _ _ _ _ _ _ _ _ _ _ _ (fun h => h0 ((cond1_iff t).mp h)) (fun h => h1 ((cond2_iff t).mp h)) (iblk m c 0 t) (iblk m c 1 t) (iblk m c 2 t) (iblk m c 3 t) (iblk m c 4 t) (iblk m c 5 t) (iblk m c 6 t) (xq m c) (k0_pay7 (iblk m c 2 p0)) _ (amax m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [H10]; · iexact H10
      isplitl [HS0]; · iexact HS0
      iintro ⟨H0, H1, H2, H3, H4, H5, H6, H7, H8, H9, H10, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists d8; iexact H8
      isplitl [H9]; · iexists d9; iexact H9
      iexists d10; iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives it back. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS0, Hg⟩
  isplitl [HS0]
  · iexists _; iexact HS0
  iexact Hg

/-- The final scratch invariant gives back the scratch buffer. -/
theorem hout (c : Dev nD) : (dats m 0 c).Φ (Fin.last cfg0.N) ⊢ Pipeline.ΦA spec0 c :=
  Phi_out m c _ (by rw [Fin.val_last]; have : cfg0.N = 72 := N_0; omega)

/-! ## The run and the frame -/

set_option backward.isDefEq.respectTransparency.types false in
set_option maxHeartbeats 800000 in
/-- The run: it terminates with every array at what the proof data compute, the other buffers as the lines after the
    region leave them, and every counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The same without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The frame claim, at any float operations: the program terminates, leaves its arguments unchanged and every counter
    at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Kernel.Body

end
-- ==== Proof.IdealRuns.lean ====
module

public import proofs.«01_k».proof.Proof.Gen.KernelIdeal.Skeleton
public import proofs.«01_k».proof.Proof.Gen.KernelIdeal.Frame
public import Idealize.ShloMosaic.Lib.VecWindow

@[expose] public section

set_option maxRecDepth 16384

/-! What one grid point does to its buffers, as three triples of the body (first point, a point between, last point),
each with the contents it leaves written out as payloads of the contents it found. -/

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one word of a scalar buffer. -/
def word (x : Vec F S1 .f32) : Elt F .f32 := x (fun a => ⟨0, by revert a; decide⟩)

/-- What a point leaves in its block of the quantised result: from the quantised activations `xq`, the two scale words
    and the point's weight and scale blocks. -/
def hq (x0 x1 : Vec F S1 .f32) (xq : Vec F S256x4608 .fp8e4m3) (wg wu : Vec F S4608x512 .fp8e4m3) (sg su : Vec F S1x512 .f32) :
    Vec F S256x512 .fp8e4m3 :=
  k0_pay3 (k0_pay10 (word x1)) (k0_pay11 xq (word x0) wg sg) (k0_pay12 xq (word x0) wu su) (k0_pay13 xq (word x0) wg sg) k0_pay14

/-- The running column maxima after a point, from those before it. -/
def amaxStep (x0 : Vec F S1 .f32) (xq : Vec F S256x4608 .fp8e4m3) (wg wu : Vec F S4608x512 .fp8e4m3) (sg su : Vec F S1x512 .f32)
    (a : Vec F S8x512 .f32) : Vec F S8x512 .f32 :=
  k0_pay2 (k0_pay11 xq (word x0) wg sg) (k0_pay12 xq (word x0) wu su) (k0_pay13 xq (word x0) wg sg) k0_pay14 a

/-- A load of a whole buffer that holds `x` reads `x`. -/
theorem load_whole {sp : Space} {s : Shape} {e : EltTy} {arg : Memref sig .tc sp s e} (h : arg.IsWhole) (x : Vec F s e)
    {off : Fin s.rank → ℕ} (inb : ∀ a, off a + s.size a ≤ s.size a) :
    arg.view.readAt (Elt F) (Rect.unit off s.size inb).toLoadRect (h.unread x) = x :=
  (View.readAt_full _ _ _).trans (h.read_unread x)

/-- The block of the quantised result, from values equal to those it is stated over. -/
theorem hq_of {x0 x1 : Vec F S1 .f32} {xq a a' a'' : Vec F S256x4608 .fp8e4m3} {wg wu g g' u : Vec F S4608x512 .fp8e4m3}
    {sg su p p' r : Vec F S1x512 .f32} {w0 w0' w0'' w1 : Elt F .f32} (h1 : w1 = word x1) (ha : a = xq) (h0 : w0 = word x0) (hg : g = wg) (hp : p = sg)
    (ha' : a' = xq) (h0' : w0' = word x0) (hu : u = wu) (hr : r = su) (ha'' : a'' = xq) (h0'' : w0'' = word x0) (hg' : g' = wg) (hp' : p' = sg) :
    k0_pay3 (k0_pay10 w1) (k0_pay11 a w0 g p) (k0_pay12 a' w0' u r) (k0_pay13 a'' w0'' g' p') k0_pay14 = hq x0 x1 xq wg wu sg su := by
  subst h1 ha h0 hg hp ha' h0' hu hr ha'' h0'' hg' hp'; rfl

/-- The running maxima likewise. -/
theorem amaxStep_of {x0 : Vec F S1 .f32} {xq a a' a'' : Vec F S256x4608 .fp8e4m3} {wg wu g g' u : Vec F S4608x512 .fp8e4m3}
    {sg su p p' r : Vec F S1x512 .f32} {w0 w0' w0'' : Elt F .f32} {y z : Vec F S8x512 .f32} (ha : a = xq) (h0 : w0 = word x0) (hg : g = wg) (hp : p = sg)
    (ha' : a' = xq) (h0' : w0' = word x0) (hu : u = wu) (hr : r = su) (ha'' : a'' = xq) (h0'' : w0'' = word x0) (hg' : g' = wg) (hp' : p' = sg) (hy : y = z) :
    k0_pay2 (k0_pay11 a w0 g p) (k0_pay12 a' w0' u r) (k0_pay13 a'' w0'' g' p') k0_pay14 y = amaxStep x0 xq wg wu sg su z := by
  subst ha h0 hg hp ha' h0' hu hr ha'' h0'' hg' hp' hy; rfl

set_option maxHeartbeats 1000000 in
/-- The first point: it quantises the activations and takes their largest magnitude, clears the running maxima, and does its block; the last result is untouched. -/
theorem run_first (c : Dev nD) (i : grid0.Coords) (arg1 : Memref sig .tc .smem S1 .f32) (harg1 : arg1.IsWhole) (arg2 : Memref sig .tc .smem S1 .f32) (harg2 : arg2.IsWhole) (arg3 : Memref sig .tc .vmem S256x4608 .bf16) (harg3 : arg3.IsWhole) (arg4 : Memref sig .tc .vmem S4608x512 .fp8e4m3) (harg4 : arg4.IsWhole) (arg5 : Memref sig .tc .vmem S4608x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S256x512 .fp8e4m3) (harg8 : arg8.IsWhole) (arg9 : Memref sig .tc .vmem S256x4608 .fp8e4m3) (harg9 : arg9.IsWhole) (arg10 : Memref sig .tc .vmem S1x1 .f32) (harg10 : arg10.IsWhole) (arg11 : Memref sig .tc .vmem S1x1 .f32) (harg11 : arg11.IsWhole) (arg12 : Memref sig .tc .vmem S8x512 .f32) (harg12 : arg12.IsWhole)
    (hc0 : k0_cond1 i = 1#1) (hc1 : ¬ k0_cond2 i = 1#1)
    (x0 x1 : Vec F S1 .f32) (x2 : Vec F S256x4608 .bf16) (x3 x4 : Vec F S4608x512 .fp8e4m3) (x5 x6 : Vec F S1x512 .f32) (y10 : Vec F S1x1 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare y10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (hq x0 x1 (k0_pay6 x2 (word x0)) x3 x4 x5 x6) ∗ owns (c : Thread nD τ) arg9 fullShare (k0_pay6 x2 (word x0)) ∗ owns (c : Thread nD τ) arg10 fullShare (k0_pay7 x2) ∗ owns (c : Thread nD τ) arg11 fullShare y10 ∗ owns (c : Thread nD τ) arg12 fullShare (amaxStep x0 (k0_pay6 x2 (word x0)) x3 x4 x5 x6 k0_pay8)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  simp only [k0_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%d12, %f12, -, H12⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg11.eq_unread hf11
  sl_exec (disch := first | sl_exact hc0 | sl_exact hc1)
  sl_step
  iapply Hk
  isplitl [H1]
  · iexists _; isplitr
    on_goal 2 => iexact H1
    ipureintro; exact harg1.read_unread _
  isplitl [H2]
  · iexists _; isplitr
    on_goal 2 => iexact H2
    ipureintro; exact harg2.read_unread _
  isplitl [H3]
  · iexists _; isplitr
    on_goal 2 => iexact H3
    ipureintro; exact harg3.read_unread _
  isplitl [H4]
  · iexists _; isplitr
    on_goal 2 => iexact H4
    ipureintro; exact harg4.read_unread _
  isplitl [H5]
  · iexists _; isplitr
    on_goal 2 => iexact H5
    ipureintro; exact harg5.read_unread _
  isplitl [H6]
  · iexists _; isplitr
    on_goal 2 => iexact H6
    ipureintro; exact harg6.read_unread _
  isplitl [H7]
  · iexists _; isplitr
    on_goal 2 => iexact H7
    ipureintro; exact harg7.read_unread _
  isplitl [H8]
  · iexists _; isplitr
    on_goal 2 => iexact H8
    ipureintro; exact (View.read_writes_full _ _ _ _ _).trans (hq_of (congrFun (load_whole harg2 _ _) _) ((View.readCov_full _ _ _ _ _).trans (congrArg₂ k0_pay6 (load_whole harg3 _ _) (congrFun (load_whole harg1 _ _) _))) (congrFun (load_whole harg1 _ _) _) (load_whole harg4 _ _) (load_whole harg6 _ _) ((View.readCov_full _ _ _ _ _).trans (congrArg₂ k0_pay6 (load_whole harg3 _ _) (congrFun (load_whole harg1 _ _) _))) (congrFun (load_whole harg1 _ _) _) (load_whole harg5 _ _) (load_whole harg7 _ _) ((View.readCov_full _ _ _ _ _).trans (congrArg₂ k0_pay6 (load_whole harg3 _ _) (congrFun (load_whole harg1 _ _) _))) (congrFun (load_whole harg1 _ _) _) (load_whole harg4 _ _) (load_whole harg6 _ _))
  isplitl [H9]
  · iexists _; isplitr
    on_goal 2 => iexact H9
    ipureintro; exact (View.read_writes_full _ _ _ _ _).trans (congrArg₂ k0_pay6 (load_whole harg3 _ _) (congrFun (load_whole harg1 _ _) _))
  isplitl [H10]
  · iexists _; isplitr
    on_goal 2 => iexact H10
    ipureintro; exact (View.read_writes_full _ _ _ _ _).trans (congrArg k0_pay7 (load_whole harg3 _ _))
  isplitl [H11]
  · iexists _; isplitr
    on_goal 2 => iexact H11
    ipureintro; exact harg11.read_unread _
  iexists _; isplitr
  on_goal 2 => iexact H12
  ipureintro; exact (View.read_writes_full _ _ _ _ _).trans (amaxStep_of ((View.readCov_full _ _ _ _ _).trans (congrArg₂ k0_pay6 (load_whole harg3 _ _) (congrFun (load_whole harg1 _ _) _))) (congrFun (load_whole harg1 _ _) _) (load_whole harg4 _ _) (load_whole harg6 _ _) ((View.readCov_full _ _ _ _ _).trans (congrArg₂ k0_pay6 (load_whole harg3 _ _) (congrFun (load_whole harg1 _ _) _))) (congrFun (load_whole harg1 _ _) _) (load_whole harg5 _ _) (load_whole harg7 _ _) ((View.readCov_full _ _ _ _ _).trans (congrArg₂ k0_pay6 (load_whole harg3 _ _) (congrFun (load_whole harg1 _ _) _))) (congrFun (load_whole harg1 _ _) _) (load_whole harg4 _ _) (load_whole harg6 _ _) (View.readCov_full _ _ _ _ _))

set_option maxHeartbeats 1000000 in
/-- A point between: it does its block from the quantised activations it finds; the three other results are untouched. -/
theorem run_mid (c : Dev nD) (i : grid0.Coords) (arg1 : Memref sig .tc .smem S1 .f32) (harg1 : arg1.IsWhole) (arg2 : Memref sig .tc .smem S1 .f32) (harg2 : arg2.IsWhole) (arg3 : Memref sig .tc .vmem S256x4608 .bf16) (harg3 : arg3.IsWhole) (arg4 : Memref sig .tc .vmem S4608x512 .fp8e4m3) (harg4 : arg4.IsWhole) (arg5 : Memref sig .tc .vmem S4608x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S256x512 .fp8e4m3) (harg8 : arg8.IsWhole) (arg9 : Memref sig .tc .vmem S256x4608 .fp8e4m3) (harg9 : arg9.IsWhole) (arg10 : Memref sig .tc .vmem S1x1 .f32) (harg10 : arg10.IsWhole) (arg11 : Memref sig .tc .vmem S1x1 .f32) (harg11 : arg11.IsWhole) (arg12 : Memref sig .tc .vmem S8x512 .f32) (harg12 : arg12.IsWhole)
    (hc0 : ¬ k0_cond1 i = 1#1) (hc1 : ¬ k0_cond2 i = 1#1)
    (x0 x1 : Vec F S1 .f32) (x2 : Vec F S256x4608 .bf16) (x3 x4 : Vec F S4608x512 .fp8e4m3) (x5 x6 : Vec F S1x512 .f32) (y8 : Vec F S256x4608 .fp8e4m3) (y9 : Vec F S1x1 .f32) (y10 : Vec F S1x1 .f32) (a : Vec F S8x512 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare y8 ∗ owns (c : Thread nD τ) arg10 fullShare y9 ∗ owns (c : Thread nD τ) arg11 fullShare y10 ∗ owns (c : Thread nD τ) arg12 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (hq x0 x1 y8 x3 x4 x5 x6) ∗ owns (c : Thread nD τ) arg9 fullShare y8 ∗ owns (c : Thread nD τ) arg10 fullShare y9 ∗ owns (c : Thread nD τ) arg11 fullShare y10 ∗ owns (c : Thread nD τ) arg12 fullShare (amaxStep x0 y8 x3 x4 x5 x6 a)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  simp only [k0_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%f12, %hf12, H12⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hf9; obtain rfl := harg10.eq_unread hf10; obtain rfl := harg11.eq_unread hf11; obtain rfl := harg12.eq_unread hf12
  sl_exec (disch := first | sl_exact hc0 | sl_exact hc1)
  sl_step
  iapply Hk
  isplitl [H1]
  · iexists _; isplitr
    on_goal 2 => iexact H1
    ipureintro; exact harg1.read_unread _
  isplitl [H2]
  · iexists _; isplitr
    on_goal 2 => iexact H2
    ipureintro; exact harg2.read_unread _
  isplitl [H3]
  · iexists _; isplitr
    on_goal 2 => iexact H3
    ipureintro; exact harg3.read_unread _
  isplitl [H4]
  · iexists _; isplitr
    on_goal 2 => iexact H4
    ipureintro; exact harg4.read_unread _
  isplitl [H5]
  · iexists _; isplitr
    on_goal 2 => iexact H5
    ipureintro; exact harg5.read_unread _
  isplitl [H6]
  · iexists _; isplitr
    on_goal 2 => iexact H6
    ipureintro; exact harg6.read_unread _
  isplitl [H7]
  · iexists _; isplitr
    on_goal 2 => iexact H7
    ipureintro; exact harg7.read_unread _
  isplitl [H8]
  · iexists _; isplitr
    on_goal 2 => iexact H8
    ipureintro; exact (View.read_writes_full _ _ _ _ _).trans (hq_of (congrFun (load_whole harg2 _ _) _) (load_whole harg9 _ _) (congrFun (load_whole harg1 _ _) _) (load_whole harg4 _ _) (load_whole harg6 _ _) (load_whole harg9 _ _) (congrFun (load_whole harg1 _ _) _) (load_whole harg5 _ _) (load_whole harg7 _ _) (load_whole harg9 _ _) (congrFun (load_whole harg1 _ _) _) (load_whole harg4 _ _) (load_whole harg6 _ _))
  isplitl [H9]
  · iexists _; isplitr
    on_goal 2 => iexact H9
    ipureintro; exact harg9.read_unread _
  isplitl [H10]
  · iexists _; isplitr
    on_goal 2 => iexact H10
    ipureintro; exact harg10.read_unread _
  isplitl [H11]
  · iexists _; isplitr
    on_goal 2 => iexact H11
    ipureintro; exact harg11.read_unread _
  iexists _; isplitr
  on_goal 2 => iexact H12
  ipureintro; exact (View.read_writes_full _ _ _ _ _).trans (amaxStep_of (load_whole harg9 _ _) (congrFun (load_whole harg1 _ _) _) (load_whole harg4 _ _) (load_whole harg6 _ _) (load_whole harg9 _ _) (congrFun (load_whole harg1 _ _) _) (load_whole harg5 _ _) (load_whole harg7 _ _) (load_whole harg9 _ _) (congrFun (load_whole harg1 _ _) _) (load_whole harg4 _ _) (load_whole harg6 _ _) (load_whole harg12 _ _))

set_option maxHeartbeats 1000000 in
/-- The last point: as a point between, and it leaves the largest of the running maxima in the last result. -/
theorem run_last (c : Dev nD) (i : grid0.Coords) (arg1 : Memref sig .tc .smem S1 .f32) (harg1 : arg1.IsWhole) (arg2 : Memref sig .tc .smem S1 .f32) (harg2 : arg2.IsWhole) (arg3 : Memref sig .tc .vmem S256x4608 .bf16) (harg3 : arg3.IsWhole) (arg4 : Memref sig .tc .vmem S4608x512 .fp8e4m3) (harg4 : arg4.IsWhole) (arg5 : Memref sig .tc .vmem S4608x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S256x512 .fp8e4m3) (harg8 : arg8.IsWhole) (arg9 : Memref sig .tc .vmem S256x4608 .fp8e4m3) (harg9 : arg9.IsWhole) (arg10 : Memref sig .tc .vmem S1x1 .f32) (harg10 : arg10.IsWhole) (arg11 : Memref sig .tc .vmem S1x1 .f32) (harg11 : arg11.IsWhole) (arg12 : Memref sig .tc .vmem S8x512 .f32) (harg12 : arg12.IsWhole)
    (hc0 : ¬ k0_cond1 i = 1#1) (hc1 : k0_cond2 i = 1#1)
    (x0 x1 : Vec F S1 .f32) (x2 : Vec F S256x4608 .bf16) (x3 x4 : Vec F S4608x512 .fp8e4m3) (x5 x6 : Vec F S1x512 .f32) (y8 : Vec F S256x4608 .fp8e4m3) (y9 : Vec F S1x1 .f32) (a : Vec F S8x512 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare y8 ∗ owns (c : Thread nD τ) arg10 fullShare y9 ∗ (∃ d, owns (c : Thread nD τ) arg11 fullShare d) ∗ owns (c : Thread nD τ) arg12 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (hq x0 x1 y8 x3 x4 x5 x6) ∗ owns (c : Thread nD τ) arg9 fullShare y8 ∗ owns (c : Thread nD τ) arg10 fullShare y9 ∗ owns (c : Thread nD τ) arg11 fullShare (k0_pay4 (amaxStep x0 y8 x3 x4 x5 x6 a)) ∗ owns (c : Thread nD τ) arg12 fullShare (amaxStep x0 y8 x3 x4 x5 x6 a)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  simp only [k0_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%d11, %f11, -, H11⟩, ⟨%f12, %hf12, H12⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hf9; obtain rfl := harg10.eq_unread hf10; obtain rfl := harg12.eq_unread hf12
  sl_exec (disch := first | sl_exact hc0 | sl_exact hc1)
  sl_step
  iapply Hk
  isplitl [H1]
  · iexists _; isplitr
    on_goal 2 => iexact H1
    ipureintro; exact harg1.read_unread _
  isplitl [H2]
  · iexists _; isplitr
    on_goal 2 => iexact H2
    ipureintro; exact harg2.read_unread _
  isplitl [H3]
  · iexists _; isplitr
    on_goal 2 => iexact H3
    ipureintro; exact harg3.read_unread _
  isplitl [H4]
  · iexists _; isplitr
    on_goal 2 => iexact H4
    ipureintro; exact harg4.read_unread _
  isplitl [H5]
  · iexists _; isplitr
    on_goal 2 => iexact H5
    ipureintro; exact harg5.read_unread _
  isplitl [H6]
  · iexists _; isplitr
    on_goal 2 => iexact H6
    ipureintro; exact harg6.read_unread _
  isplitl [H7]
  · iexists _; isplitr
    on_goal 2 => iexact H7
    ipureintro; exact harg7.read_unread _
  isplitl [H8]
  · iexists _; isplitr
    on_goal 2 => iexact H8
    ipureintro; exact (View.read_writes_full _ _ _ _ _).trans (hq_of (congrFun (load_whole harg2 _ _) _) (load_whole harg9 _ _) (congrFun (load_whole harg1 _ _) _) (load_whole harg4 _ _) (load_whole harg6 _ _) (load_whole harg9 _ _) (congrFun (load_whole harg1 _ _) _) (load_whole harg5 _ _) (load_whole harg7 _ _) (load_whole harg9 _ _) (congrFun (load_whole harg1 _ _) _) (load_whole harg4 _ _) (load_whole harg6 _ _))
  isplitl [H9]
  · iexists _; isplitr
    on_goal 2 => iexact H9
    ipureintro; exact harg9.read_unread _
  isplitl [H10]
  · iexists _; isplitr
    on_goal 2 => iexact H10
    ipureintro; exact harg10.read_unread _
  isplitl [H11]
  · iexists _; isplitr
    on_goal 2 => iexact H11
    ipureintro; exact (View.read_writes_full _ _ _ _ _).trans (congrArg k0_pay4 ((View.readCov_full _ _ _ _ _).trans (amaxStep_of (load_whole harg9 _ _) (congrFun (load_whole harg1 _ _) _) (load_whole harg4 _ _) (load_whole harg6 _ _) (load_whole harg9 _ _) (congrFun (load_whole harg1 _ _) _) (load_whole harg5 _ _) (load_whole harg7 _ _) (load_whole harg9 _ _) (congrFun (load_whole harg1 _ _) _) (load_whole harg4 _ _) (load_whole harg6 _ _) (load_whole harg12 _ _))))
  iexists _; isplitr
  on_goal 2 => iexact H12
  ipureintro; exact (View.read_writes_full _ _ _ _ _).trans (amaxStep_of (load_whole harg9 _ _) (congrFun (load_whole harg1 _ _) _) (load_whole harg4 _ _) (load_whole harg6 _ _) (load_whole harg9 _ _) (congrFun (load_whole harg1 _ _) _) (load_whole harg5 _ _) (load_whole harg7 _ _) (load_whole harg9 _ _) (congrFun (load_whole harg1 _ _) _) (load_whole harg4 _ _) (load_whole harg6 _ _) (load_whole harg12 _ _))

end Cert.KernelIdeal.Body

end
-- ==== Proof.IdealLaunch.lean ====
module

public import proofs.«01_k».proof.Proof.IdealRuns
public import Idealize.ShloMosaic.Lib.Pipeline.TableIdle
public import Idealize.ShloMosaic.Lib.Claim

@[expose] public section

set_option maxRecDepth 16384

/-! The region's proof data — what every window's buffer and the running maxima hold after every grid point —, the
body obligation at a generic point, and the run of the whole program: it ends with the arguments unchanged, the
counters at zero, and every array at what the proof data compute. -/

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two conditions, and where windows are idle -/

/-- The region has 72 points. -/
theorem lt72 (t : Fin cfg0.N) : t.val < 72 := lt_of_lt_of_eq t.isLt N_0

/-- The first condition holds at point 0 only. -/
theorem cond1_iff : ∀ t : Fin cfg0.N, k0_cond1 (grid0.coords t) = 1#1 ↔ t.val = 0 :=
  (fun t => by
    have ht : t.val < 72 := Nat.lt_of_lt_of_eq t.isLt N_0
    have e0 : (grid0.coords t 0).val = t.val / 1 % 72 := Pipeline.Grid.coords_val t 0 (by decide) rfl
    simp only [k0_cond1, e0]
    word_cmp
   : ∀ t : Fin grid0.N, k0_cond1 (grid0.coords t) = 1#1 ↔ t.val = 0)

/-- The second holds at point 71 only. -/
theorem cond2_iff : ∀ t : Fin cfg0.N, k0_cond2 (grid0.coords t) = 1#1 ↔ t.val = 71 :=
  (fun t => by
    have ht : t.val < 72 := Nat.lt_of_lt_of_eq t.isLt N_0
    have e0 : (grid0.coords t 0).val = t.val / 1 % 72 := Pipeline.Grid.coords_val t 0 (by decide) rfl
    simp only [k0_cond2, e0]
    word_cmp
   : ∀ t : Fin grid0.N, k0_cond2 (grid0.coords t) = 1#1 ↔ t.val = 71)

/-- Windows 8 and 9 are idle where the first condition fails, window 10 where the second does. -/
theorem idle8 (t : Fin cfg0.N) : cfg0.idle 8 (cfg0.grid.coords t) = !(k0_cond1 (grid0.coords t) == 1#1) := rfl
/-- When window 9 is left alone by the body. -/
theorem idle9 (t : Fin cfg0.N) : cfg0.idle 9 (cfg0.grid.coords t) = !(k0_cond1 (grid0.coords t) == 1#1) := rfl
/-- When window 10 is left alone by the body. -/
theorem idle10 (t : Fin cfg0.N) : cfg0.idle 10 (cfg0.grid.coords t) = !(k0_cond2 (grid0.coords t) == 1#1) := rfl

/-- When window 8 is left alone by the body, by the number of the point. -/
theorem idle8_eq (t : Fin cfg0.N) : cfg0.idle 8 (cfg0.grid.coords t) = decide (t.val ≠ 0) := by
  rw [idle8, Bool.eq_iff_iff]; simp [cond1_iff t]
/-- When window 9 is left alone by the body, by the number of the point. -/
theorem idle9_eq (t : Fin cfg0.N) : cfg0.idle 9 (cfg0.grid.coords t) = decide (t.val ≠ 0) := by
  rw [idle9, Bool.eq_iff_iff]; simp [cond1_iff t]
/-- When window 10 is left alone by the body, by the number of the point. -/
theorem idle10_eq (t : Fin cfg0.N) : cfg0.idle 10 (cfg0.grid.coords t) = decide (t.val ≠ 71) := by
  rw [idle10, Bool.eq_iff_iff]; simp [cond2_iff t]

/-- Window 8 is written out at the last point only. -/
theorem flush8_eq (t : Fin cfg0.N) : (cfg0.win 8).flush t = decide (t.val = 71) := by
  have := lt72 t
  rw [Bool.eq_iff_iff, flush0_8 t, decide_eq_true_iff]; omega
/-- Window 9 is written out at the last point only. -/
theorem flush9_eq (t : Fin cfg0.N) : (cfg0.win 9).flush t = decide (t.val = 71) := by
  have := lt72 t
  rw [Bool.eq_iff_iff, flush0_9 t, decide_eq_true_iff]; omega
/-- Window 10 is written out at the last point only. -/
theorem flush10_eq (t : Fin cfg0.N) : (cfg0.win 10).flush t = decide (t.val = 71) := by
  have := lt72 t
  rw [Bool.eq_iff_iff, flush0_10 t, decide_eq_true_iff]; omega

/-- After the first point and up to the last, what the first point stored in window 8's buffer is still
    there. -/
theorem fresh8 : ∀ n : ℕ, n ≤ 70 → cfg0.fresh 8 (n + 1) = false
  | 0, _ => by
    have h : 0 < cfg0.N := by rw [show cfg0.N = 72 from N_0]; decide
    rw [Cfg.fresh_succ _ _ 0 h, flush8_eq, idle8_eq]; rfl
  | n + 1, hn => by
    have h : n + 1 < cfg0.N := by rw [show cfg0.N = 72 from N_0]; omega
    rw [Cfg.fresh_succ _ _ (n + 1) h, flush8_eq, fresh8 n (by omega), Bool.and_false, Bool.or_false]
    exact decide_eq_false (by dsimp only; omega)
/-- The same for window 9. -/
theorem fresh9 : ∀ n : ℕ, n ≤ 70 → cfg0.fresh 9 (n + 1) = false
  | 0, _ => by
    have h : 0 < cfg0.N := by rw [show cfg0.N = 72 from N_0]; decide
    rw [Cfg.fresh_succ _ _ 0 h, flush9_eq, idle9_eq]; rfl
  | n + 1, hn => by
    have h : n + 1 < cfg0.N := by rw [show cfg0.N = 72 from N_0]; omega
    rw [Cfg.fresh_succ _ _ (n + 1) h, flush9_eq, fresh9 n (by omega), Bool.and_false, Bool.or_false]
    exact decide_eq_false (by dsimp only; omega)

/-! ## What the buffers hold after each point -/

/-- The first point. -/
def p0 : Fin cfg0.N := ⟨0, by rw [show cfg0.N = 72 from N_0]; decide⟩

/-- The quantised activations, as the first point leaves them. -/
def xq (c : Dev nD) : Vec F S256x4608 .fp8e4m3 := k0_pay6 (iblk m c 2 p0) (word (iblk m c 0 p0))

/-- The running column maxima after point `n`. -/
def amax (c : Dev nD) : (n : ℕ) → n < cfg0.N → Vec F S8x512 .f32
  | 0, h => amaxStep (iblk m c 0 ⟨0, h⟩) (xq m c) (iblk m c 3 ⟨0, h⟩) (iblk m c 4 ⟨0, h⟩) (iblk m c 5 ⟨0, h⟩) (iblk m c 6 ⟨0, h⟩) k0_pay8
  | n + 1, h => amaxStep (iblk m c 0 ⟨n + 1, h⟩) (xq m c) (iblk m c 3 ⟨n + 1, h⟩) (iblk m c 4 ⟨n + 1, h⟩) (iblk m c 5 ⟨n + 1, h⟩)
      (iblk m c 6 ⟨n + 1, h⟩) (amax c n (Nat.lt_of_succ_lt h))

/-- One step of them, at a point that is not the first. -/
theorem amax_pos (c : Dev nD) (t : Fin cfg0.N) (ht : t.val ≠ 0) :
    amax m c t.val t.isLt = amaxStep (iblk m c 0 t) (xq m c) (iblk m c 3 t) (iblk m c 4 t) (iblk m c 5 t) (iblk m c 6 t)
      (amax m c (t.val - 1) (Nat.lt_of_le_of_lt (Nat.sub_le _ _) t.isLt)) := by
  obtain ⟨n, hn⟩ := t
  cases n with
  | zero => exact absurd rfl ht
  | succ n => rfl

/-- The region invariant before position `n`: at the first, the scratch at anything; later, the running maxima of the
    point before. -/
def PhiS (c : Dev nD) : (n : ℕ) → n ≤ cfg0.N → sProp 𝕄
  | 0, _ => Pipeline.ΦA spec0 c
  | n + 1, hn => iprop(iprop(owns (c : Thread nD τ) (Memref.whole cc0_scratch0) fullShare (amax m c n hn)) ∗ (∃ r, prngReg c r))

/-- Before the first point nothing is known of the scratch buffer. -/
theorem PhiS_zero (c : Dev nD) (n : ℕ) (h : n ≤ cfg0.N) (hz : n = 0) : PhiS m c n h = Pipeline.ΦA spec0 c := by
  subst hz; rfl

/-- After point `n` the scratch buffer holds the running maxima through `n`. -/
theorem PhiS_succ (c : Dev nD) (n : ℕ) (hn : n < cfg0.N) :
    PhiS m c (n + 1) hn = iprop(iprop(owns (c : Thread nD τ) (Memref.whole cc0_scratch0) fullShare (amax m c n hn)) ∗ (∃ r, prngReg c r)) := rfl

/-- The same, for a positive position. -/
theorem PhiS_pos (c : Dev nD) (n : ℕ) (h : n ≤ cfg0.N) (hz : n ≠ 0) :
    PhiS m c n h = iprop(iprop(owns (c : Thread nD τ) (Memref.whole cc0_scratch0) fullShare (amax m c (n - 1) (by omega))) ∗ (∃ r, prngReg c r)) := by
  cases n with
  | zero => exact absurd rfl hz
  | succ n => rfl

/-- The class's invariant with the scratch as a memref owned at some contents. -/
theorem PhiA_eq (c : Dev nD) :
    (Pipeline.ΦA spec0 c : sProp 𝕄)
      = iprop(iprop((∃ d, owns (c : Thread nD τ) (Memref.whole cc0_scratch0) fullShare d)) ∗ (∃ r, prngReg c r)) := by
  unfold Pipeline.ΦA; rw [scopedRest0_eq]; simp only [owns_whole]; try rfl

/-- The proof data of the one pipeline on core `c`: after the body at point `t`, each input's buffer at its block; the
    quantised result's at its block of it; the quantised activations, their largest magnitude and the largest running
    maximum in the three others. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => hq (iblk m c 0 t) (iblk m c 1 t) (xq m c) (iblk m c 3 t) (iblk m c 4 t) (iblk m c 5 t) (iblk m c 6 t)
    | ⟨8, _⟩ => xq m c
    | ⟨9, _⟩ => k0_pay7 (iblk m c 2 p0)
    | ⟨10, _⟩ => k0_pay4 (amax m c t.val t.isLt)
  Φ t := PhiS m c t.val (Nat.le_of_lt_succ t.isLt)
  q w := Pipeline.shareOf spec0 w
  owed _ := 0

/-- The array a window reads is the one the launch finds there. -/
theorem A_eq (c : Dev nD) (w : Fin cfg0.W) : (dats m 0 c).A w = V m c (Pipeline.arrRef spec0 w) := by
  dsimp only [dats]

/-- The scratch invariant at the position before point `t`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-! What the body leaves, window by window. -/

theorem after0 (c : Dev nD) (t : Fin cfg0.N) : (dats m 0 c).after 0 t = iblk m c 0 t := by dsimp only [dats]
/-- What window 1 holds after the body at point `t`. -/
theorem after1 (c : Dev nD) (t : Fin cfg0.N) : (dats m 0 c).after 1 t = iblk m c 1 t := by dsimp only [dats]
/-- What window 2 holds after the body at point `t`. -/
theorem after2 (c : Dev nD) (t : Fin cfg0.N) : (dats m 0 c).after 2 t = iblk m c 2 t := by dsimp only [dats]
/-- What window 3 holds after the body at point `t`. -/
theorem after3 (c : Dev nD) (t : Fin cfg0.N) : (dats m 0 c).after 3 t = iblk m c 3 t := by dsimp only [dats]
/-- What window 4 holds after the body at point `t`. -/
theorem after4 (c : Dev nD) (t : Fin cfg0.N) : (dats m 0 c).after 4 t = iblk m c 4 t := by dsimp only [dats]
/-- What window 5 holds after the body at point `t`. -/
theorem after5 (c : Dev nD) (t : Fin cfg0.N) : (dats m 0 c).after 5 t = iblk m c 5 t := by dsimp only [dats]
/-- What window 6 holds after the body at point `t`. -/
theorem after6 (c : Dev nD) (t : Fin cfg0.N) : (dats m 0 c).after 6 t = iblk m c 6 t := by dsimp only [dats]
/-- What window 7 holds after the body at point `t`. -/
theorem after7 (c : Dev nD) (t : Fin cfg0.N) : (dats m 0 c).after 7 t = hq (iblk m c 0 t) (iblk m c 1 t) (xq m c) (iblk m c 3 t) (iblk m c 4 t) (iblk m c 5 t) (iblk m c 6 t) := by dsimp only [dats]
/-- What window 8 holds after the body at point `t`. -/
theorem after8 (c : Dev nD) (t : Fin cfg0.N) : (dats m 0 c).after 8 t = xq m c := by dsimp only [dats]
/-- What window 9 holds after the body at point `t`. -/
theorem after9 (c : Dev nD) (t : Fin cfg0.N) : (dats m 0 c).after 9 t = k0_pay7 (iblk m c 2 p0) := by dsimp only [dats]
/-- What window 10 holds after the body at point `t`. -/
theorem after10 (c : Dev nD) (t : Fin cfg0.N) : (dats m 0 c).after 10 t = k0_pay4 (amax m c t.val t.isLt) := by dsimp only [dats]

/-! What the body finds: an input's block; after the first point, the first point's contents of windows 8 and 9. -/

theorem before0 (c : Dev nD) (t : Fin cfg0.N) (d) : (dats m 0 c).before 0 t d = iblk m c 0 t :=
  before0_0_of m (dats m 0 c) (A_eq m c 0) (after0 m c) t d
/-- What window 1 holds before the body at point `t`. -/
theorem before1 (c : Dev nD) (t : Fin cfg0.N) (d) : (dats m 0 c).before 1 t d = iblk m c 1 t :=
  before0_1_of m (dats m 0 c) (A_eq m c 1) (after1 m c) t d
/-- What window 2 holds before the body at point `t`. -/
theorem before2 (c : Dev nD) (t : Fin cfg0.N) (d) : (dats m 0 c).before 2 t d = iblk m c 2 t :=
  before0_2_of m (dats m 0 c) (A_eq m c 2) (after2 m c) t d
/-- What window 3 holds before the body at point `t`. -/
theorem before3 (c : Dev nD) (t : Fin cfg0.N) (d) : (dats m 0 c).before 3 t d = iblk m c 3 t :=
  before0_3_of m (dats m 0 c) (A_eq m c 3) (after3 m c) t d
/-- What window 4 holds before the body at point `t`. -/
theorem before4 (c : Dev nD) (t : Fin cfg0.N) (d) : (dats m 0 c).before 4 t d = iblk m c 4 t :=
  before0_4_of m (dats m 0 c) (A_eq m c 4) (after4 m c) t d
/-- What window 5 holds before the body at point `t`. -/
theorem before5 (c : Dev nD) (t : Fin cfg0.N) (d) : (dats m 0 c).before 5 t d = iblk m c 5 t :=
  before0_5_of m (dats m 0 c) (A_eq m c 5) (after5 m c) t d
/-- What window 6 holds before the body at point `t`. -/
theorem before6 (c : Dev nD) (t : Fin cfg0.N) (d) : (dats m 0 c).before 6 t d = iblk m c 6 t :=
  before0_6_of m (dats m 0 c) (A_eq m c 6) (after6 m c) t d
/-- What window 8 holds before the body at point `t`. -/
theorem before8 (c : Dev nD) (t : Fin cfg0.N) (ht : t.val ≠ 0) (d) : (dats m 0 c).before 8 t d = xq m c := by
  have hf : cfg0.fresh 8 t.val = false := by
    have h := fresh8 (t.val - 1) (by have := lt72 t; omega)
    rwa [Nat.sub_add_cancel (Nat.pos_of_ne_zero ht)] at h
  rw [Dat.before_out_traj (dats m 0 c) 8 rfl (fun _ _ => rfl) (fun s hs _ _ => by rw [after8, after8]) t.val t rfl d, hf]
  exact after8 m c _
/-- What window 9 holds before the body at point `t`. -/
theorem before9 (c : Dev nD) (t : Fin cfg0.N) (ht : t.val ≠ 0) (d) : (dats m 0 c).before 9 t d = k0_pay7 (iblk m c 2 p0) := by
  have hf : cfg0.fresh 9 t.val = false := by
    have h := fresh9 (t.val - 1) (by have := lt72 t; omega)
    rwa [Nat.sub_add_cancel (Nat.pos_of_ne_zero ht)] at h
  rw [Dat.before_out_traj (dats m 0 c) 9 rfl (fun _ _ => rfl) (fun s hs _ _ => by rw [after9, after9]) t.val t rfl d, hf]
  exact after9 m c _

/-- A window written back at a point is left at its contents there, idle or not. -/
theorem leaves_flush (c : Dev nD) (w : Fin cfg0.W) (t : Fin cfg0.N) (hf : (cfg0.win w).flush t = true) :
    (dats m 0 c).leavesExact w t = owns (c : Thread nD τ) ((cfg0.win w).stage (cfg0.slots t w)) fullShare ((dats m 0 c).after w t) := by
  unfold Dat.leavesExact
  cases cfg0.idle w (cfg0.grid.coords t)
  · rfl
  · rw [hf]

/-- So is a window live there. -/
theorem leaves_live (c : Dev nD) (w : Fin cfg0.W) (t : Fin cfg0.N) (hi : cfg0.idle w (cfg0.grid.coords t) = false) :
    (dats m 0 c).leavesExact w t = owns (c : Thread nD τ) ((cfg0.win w).stage (cfg0.slots t w)) fullShare ((dats m 0 c).after w t) := by
  unfold Dat.leavesExact
  rw [hi]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) ((cfg0.win 0).stage (cfg0.slots t 0)) fullShare ((dats m 0 c).before 0 t d))
    ∗ (∃ d, owns (c : Thread nD τ) ((cfg0.win 1).stage (cfg0.slots t 1)) fullShare ((dats m 0 c).before 1 t d))
    ∗ (∃ d, owns (c : Thread nD τ) ((cfg0.win 2).stage (cfg0.slots t 2)) fullShare ((dats m 0 c).before 2 t d))
    ∗ (∃ d, owns (c : Thread nD τ) ((cfg0.win 3).stage (cfg0.slots t 3)) fullShare ((dats m 0 c).before 3 t d))
    ∗ (∃ d, owns (c : Thread nD τ) ((cfg0.win 4).stage (cfg0.slots t 4)) fullShare ((dats m 0 c).before 4 t d))
    ∗ (∃ d, owns (c : Thread nD τ) ((cfg0.win 5).stage (cfg0.slots t 5)) fullShare ((dats m 0 c).before 5 t d))
    ∗ (∃ d, owns (c : Thread nD τ) ((cfg0.win 6).stage (cfg0.slots t 6)) fullShare ((dats m 0 c).before 6 t d))
    ∗ (∃ d, owns (c : Thread nD τ) ((cfg0.win 7).stage (cfg0.slots t 7)) fullShare ((dats m 0 c).before 7 t d))
    ∗ (∃ d, owns (c : Thread nD τ) ((cfg0.win 8).stage (cfg0.slots t 8)) fullShare ((dats m 0 c).before 8 t d))
    ∗ (∃ d, owns (c : Thread nD τ) ((cfg0.win 9).stage (cfg0.slots t 9)) fullShare ((dats m 0 c).before 9 t d))
    ∗ (∃ d, owns (c : Thread nD τ) ((cfg0.win 10).stage (cfg0.slots t 10)) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 4000000 in
/-- The body at any point, by the triple of the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl,
    show (dats m 0 c).Φ t.succ = PhiS m c (t.val + 1) t.isLt from rfl, PhiS_succ, PhiS_castSucc m c t]
  rw [leaves_live m c 0 t rfl, after0]
  rw [leaves_live m c 1 t rfl, after1]
  rw [leaves_live m c 2 t rfl, after2]
  rw [leaves_live m c 3 t rfl, after3]
  rw [leaves_live m c 4 t rfl, after4]
  rw [leaves_live m c 5 t rfl, after5]
  rw [leaves_live m c 6 t rfl, after6]
  rw [leaves_live m c 7 t rfl, after7]
  have hN : t.val < 72 := lt72 t
  by_cases h0 : t.val = 0
  · have h1 : ¬ t.val = 71 := by omega
    obtain rfl : t = p0 := Fin.ext h0
    rw [leaves_live m c 8 _ (by rw [idle8_eq]; exact decide_eq_false fun h => h h0), after8,
      leaves_live m c 9 _ (by rw [idle9_eq]; exact decide_eq_false fun h => h h0), after9,
      Dat.leavesExact_idle (dats m 0 c) 10 _ (by rw [idle10_eq]; exact decide_eq_true h1) (by rw [flush10_eq]; exact decide_eq_false h1)]
    rw [PhiS_zero m c _ _ h0, PhiA_eq]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_first c (grid0.coords p0) _ _ _ _ _ _ _ _ _ _ _ _ _ _ _ _ _ _ _ _ _ _ _ _ ((cond1_iff p0).mpr h0) (fun h => h1 ((cond2_iff p0).mp h)) (iblk m c 0 p0) (iblk m c 1 p0) (iblk m c 2 p0) (iblk m c 3 p0) (iblk m c 4 p0) (iblk m c 5 p0) (iblk m c 6 p0) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexact H10
    isplitl [HS0]; · iexact HS0
    iintro ⟨H0, H1, H2, H3, H4, H5, H6, H7, H8, H9, H10, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists d10; iexact H10
  · by_cases h1 : t.val = 71
    · rw [leaves_flush m c 8 t (by rw [flush8_eq]; exact decide_eq_true h1), after8,
        leaves_flush m c 9 t (by rw [flush9_eq]; exact decide_eq_true h1), after9,
        leaves_flush m c 10 t (by rw [flush10_eq]; exact decide_eq_true h1), after10]
      simp only [before8 m c t h0, before9 m c t h0]
      rw [PhiS_pos m c _ _ h0, amax_pos m c t h0]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run_last c (grid0.coords t) _ _ _ _ _ _ _ _ _ _ _ _ _ _ _ _ _ _ _ _ _ _ _ _ (fun h => h0 ((cond1_iff t).mp h)) ((cond2_iff t).mpr h1) (iblk m c 0 t) (iblk m c 1 t) (iblk m c 2 t) (iblk m c 3 t) (iblk m c 4 t) (iblk m c 5 t) (iblk m c 6 t) (xq m c) (k0_pay7 (iblk m c 2 p0)) (amax m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [H10]; · iexists _; iexact H10
      isplitl [HS0]; · iexact HS0
      iintro ⟨H0, H1, H2, H3, H4, H5, H6, H7, H8, H9, H10, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · rw [Dat.leavesExact_idle (dats m 0 c) 8 t (by rw [idle8_eq]; exact decide_eq_true h0) (by rw [flush8_eq]; exact decide_eq_false h1),
        Dat.leavesExact_idle (dats m 0 c) 9 t (by rw [idle9_eq]; exact decide_eq_true h0) (by rw [flush9_eq]; exact decide_eq_false h1),
        Dat.leavesExact_idle (dats m 0 c) 10 t (by rw [idle10_eq]; exact decide_eq_true h1) (by rw [flush10_eq]; exact decide_eq_false h1)]
      simp only [before8 m c t h0, before9 m c t h0]
      rw [PhiS_pos m c _ _ h0, amax_pos m c t h0]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run_mid c (grid0.coords t) _ _ _ _ _ _ _ _ _ _ _ _ _ _ _ _ _ _ _ _ _ _ _ _ (fun h => h0 ((cond1_iff t).mp h)) (fun h => h1 ((cond2_iff t).mp h)) (iblk m c 0 t) (iblk m c 1 t) (iblk m c 2 t) (iblk m c 3 t) (iblk m c 4 t) (iblk m c 5 t) (iblk m c 6 t) (xq m c) (k0_pay7 (iblk m c 2 p0)) _ (amax m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [H10]; · iexact H10
      isplitl [HS0]; · iexact HS0
      iintro ⟨H0, H1, H2, H3, H4, H5, H6, H7, H8, H9, H10, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists d8; iexact H8
      isplitl [H9]; · iexists d9; iexact H9
      iexists d10; iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives it back. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS0, Hg⟩
  isplitl [HS0]
  · iexists _; iexact HS0
  iexact Hg

/-- The final scratch invariant gives back the scratch buffer. -/
theorem hout (c : Dev nD) : (dats m 0 c).Φ (Fin.last cfg0.N) ⊢ Pipeline.ΦA spec0 c :=
  Phi_out m c _ (by rw [Fin.val_last]; have : cfg0.N = 72 := N_0; omega)

/-! ## The run and the frame -/

set_option backward.isDefEq.respectTransparency.types false in
set_option maxHeartbeats 800000 in
/-- The run: it terminates with every array at what the proof data compute, the other buffers as the lines after the
    region leave them, and every counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The same without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The frame claim, at any float operations: the program terminates, leaves its arguments unchanged and every counter
    at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Body

end
-- ==== Proof.Formula.lean ====
/-
  The mathematics of the layer at single elements, over the extended reals, as both programs are shown to compute it.
  `x` is the activation array, `w` the weights (gate columns, then up columns), `ws` the weights' scales by column, `xs` and
  `hs` the two one-element scale arrays.
-/
module

public import Idealize.ShloMosaic.Lib.Pointwise
public import Idealize.ShloMosaic.Lib.Pipeline.Value

@[expose] public section

noncomputable section

namespace Cert.Formula

open Idealize.ShloMosaic

/-- A value divided by a scale (as the product with the scale's reciprocal), clipped to the eight-bit format's range
    [-448, 448]. -/
def clip (v s : EReal) : EReal :=
  min (Ideal.ofBits .f32 0x43E00000#32) (max (Ideal.ofBits .f32 0xC3E00000#32) (v * Ideal.div 1 s))

/-- The gate: `g · ½ · (1 + tanh(√(2/π) · (g + 0.044715 · g³)))`, times the other branch. -/
def gated (g u : EReal) : EReal :=
  g * (Ideal.ofBits .f32 0x3F000000#32 * (1 + Ideal.tanh (Ideal.ofBits .f32 0x3F4C422A#32 *
    (g + Ideal.ofBits .f32 0x3D372713#32 * (g * (g * g)))))) * u

section Arrays

variable (x : (⟨3, ![2, 128, 4608]⟩ : Shape).Idx → EReal) (w : (⟨2, ![4608, 73728]⟩ : Shape).Idx → EReal)
  (ws : (⟨1, ![73728]⟩ : Shape).Idx → EReal) (xs hs : (⟨1, ![1]⟩ : Shape).Idx → EReal)

/-- The quantised activation at one element. -/
def code (b : Fin 2) (r : Fin 128) (k : Fin 4608) : EReal := clip (x (ix3 b r k)) (xs (ix1 0))

/-- The scaled product of one row of quantised activations with one column of the weights. -/
def column (b : Fin 2) (r : Fin 128) (n : Fin 73728) : EReal :=
  (∑ k : Fin 4608, code x xs b r k * w (ix2 k n)) * xs (ix1 0) * ws (ix1 n)

/-- The hidden activation at one element: gate column `n`, up column `n + 36864`. -/
def hidden (b : Fin 2) (r : Fin 128) (n : Fin 36864) : EReal :=
  gated (column x w ws xs b r ⟨n.val, by omega⟩) (column x w ws xs b r ⟨n.val + 36864, by omega⟩)

end Arrays

/-- The magnitude of an extended real. -/
def mag (a : EReal) : EReal := max a (-a)

/-- A magnitude is at least zero. -/
theorem mag_nonneg (a : EReal) : 0 ≤ mag a := by
  unfold mag
  rcases le_total 0 a with h | h
  · exact le_max_of_le_left h
  · exact le_max_of_le_right (EReal.neg_nonneg.mpr h)

/-- The f32 pattern of minus infinity is the least extended real. -/
theorem ofBits_bot : Ideal.ofBits .f32 0xFF800000#32 = ⊥ := by
  simp [Ideal.ofBits, Ideal.ieee]

/-- A fold of `max` from the least element is at most `c` exactly when every folded value is. -/
theorem fold_max_le {ι : Type} [DecidableEq ι] (S : Finset ι) (f : ι → EReal) (c : EReal) :
    S.fold max (Ideal.ofBits .f32 0xFF800000#32) f ≤ c ↔ ∀ i ∈ S, f i ≤ c := by
  rw [Finset.fold_max_le, ofBits_bot]
  simp

end Cert.Formula
-- ==== Proof.IdealBlock.lean ====
/-
  What one grid point of the idealized kernel computes, element by element: the body's pure expressions read at an index.
-/
module

public import proofs.«01_k».proof.Proof.IdealLaunch
public import proofs.«01_k».proof.Proof.Formula

@[expose] public section

set_option maxRecDepth 16384

noncomputable section

namespace Cert.KernelIdeal.Body

open Cert.KernelIdeal Cert.KernelIdeal.Gen Idealize.ShloMosaic Cert.Formula

/-- The word of a one-element array is its element. -/
theorem word_eq (y : Vec Ideal S1 .f32) : word (F := Ideal) y = y (ix1 0) :=
  congrArg y (funext fun a => by fin_cases a; rfl)

/-- The quantised activation block at an element. -/
theorem pay6_apply (x : Vec Ideal S256x4608 .bf16) (s : Elt Ideal .f32) (r : Fin 256) (k : Fin 4608) :
    k0_pay6 (F := Ideal) x s (ix2 r k) = clip (x (ix2 r k)) s := by
  unfold k0_pay6 k0_pay5 clip
  pointwise

/-- One branch's block at an element: the row-by-column sum, scaled. -/
theorem pay11_apply (q : Vec Ideal S256x4608 .fp8e4m3) (s : Elt Ideal .f32) (w : Vec Ideal S4608x512 .fp8e4m3)
    (ws : Vec Ideal S1x512 .f32) (r : Fin 256) (n : Fin 512) :
    k0_pay11 (F := Ideal) q s w ws (ix2 r n) = (∑ k : Fin 4608, q (ix2 r k) * w (ix2 k n)) * s * ws (ix2 0 n) := by
  unfold k0_pay11 k0_pay9
  pointwise

/-- The other branch's. -/
theorem pay12_apply (q : Vec Ideal S256x4608 .fp8e4m3) (s : Elt Ideal .f32) (w : Vec Ideal S4608x512 .fp8e4m3)
    (ws : Vec Ideal S1x512 .f32) (r : Fin 256) (n : Fin 512) :
    k0_pay12 (F := Ideal) q s w ws (ix2 r n) = (∑ k : Fin 4608, q (ix2 r k) * w (ix2 k n)) * s * ws (ix2 0 n) := by
  unfold k0_pay12 k0_pay9
  pointwise

/-- The gated block at an element. -/
theorem pay1_apply (q : Vec Ideal S256x4608 .fp8e4m3) (s : Elt Ideal .f32) (wg wu : Vec Ideal S4608x512 .fp8e4m3)
    (sg su : Vec Ideal S1x512 .f32) (r : Fin 256) (n : Fin 512) :
    k0_pay1 (F := Ideal) (k0_pay11 q s wg sg) (k0_pay12 q s wu su) (k0_pay13 q s wg sg) k0_pay14 (ix2 r n)
      = gated ((∑ k : Fin 4608, q (ix2 r k) * wg (ix2 k n)) * s * sg (ix2 0 n))
          ((∑ k : Fin 4608, q (ix2 r k) * wu (ix2 k n)) * s * su (ix2 0 n)) := by
  unfold k0_pay1 k0_pay13 k0_pay14
  pointwise
  rw [pay11_apply, pay12_apply]
  unfold gated
  rw [mul_assoc (_ * _ * _) (_ * _ * _) (_ * _ * _)]

/-- The quantised output block at an element. -/
theorem hq_apply (x0 x1 : Vec Ideal S1 .f32) (q : Vec Ideal S256x4608 .fp8e4m3) (wg wu : Vec Ideal S4608x512 .fp8e4m3)
    (sg su : Vec Ideal S1x512 .f32) (r : Fin 256) (n : Fin 512) :
    hq (F := Ideal) x0 x1 q wg wu sg su (ix2 r n)
      = clip (gated ((∑ k : Fin 4608, q (ix2 r k) * wg (ix2 k n)) * x0 (ix1 0) * sg (ix2 0 n))
          ((∑ k : Fin 4608, q (ix2 r k) * wu (ix2 k n)) * x0 (ix1 0) * su (ix2 0 n))) (x1 (ix1 0)) := by
  unfold hq
  rw [word_eq, word_eq]
  have h := pay1_apply q (x0 (ix1 0)) wg wu sg su r n
  generalize hp : k0_pay1 (F := Ideal) (k0_pay11 q (x0 (ix1 0)) wg sg) (k0_pay12 q (x0 (ix1 0)) wu su)
    (k0_pay13 q (x0 (ix1 0)) wg sg) k0_pay14 = p at h
  unfold k0_pay3 k0_pay10 clip
  rw [hp]
  pointwise
  rw [h]

/-- The largest magnitude over a whole activation block is at most `c` exactly when every magnitude is. -/
theorem pay7_le (x : Vec Ideal S256x4608 .bf16) (j : S1x1.Idx) (c : EReal) :
    k0_pay7 (F := Ideal) x j ≤ c ↔ ∀ r k, mag (x (ix2 r k)) ≤ c := by
  idx_vars j
  unfold k0_pay7 k0_pay5
  pointwise
  rw [fold_max_le]
  exact ⟨fun h r k => h (r, k) (Finset.mem_univ _), fun h i _ => h i.1 i.2⟩

/-- The largest of all running maxima. -/
theorem pay4_le (a : Vec Ideal S8x512 .f32) (j : S1x1.Idx) (c : EReal) :
    k0_pay4 (F := Ideal) a j ≤ c ↔ ∀ i n, a (ix2 i n) ≤ c := by
  idx_vars j
  unfold k0_pay4
  pointwise
  rw [fold_max_le]
  exact ⟨fun h r k => h (r, k) (Finset.mem_univ _), fun h i _ => h i.1 i.2⟩

/-- The running maxima start at zero. -/
theorem pay8_apply (j : S8x512.Idx) : k0_pay8 (F := Ideal) j = 0 := by
  idx_vars j
  unfold k0_pay8
  pointwise

/-- The running maxima after a point: at most `c` exactly when those before it are, and so is every magnitude of the
    gated block in the rows of the same residue modulo eight. -/
theorem amaxStep_le (x0 : Vec Ideal S1 .f32) (q : Vec Ideal S256x4608 .fp8e4m3) (wg wu : Vec Ideal S4608x512 .fp8e4m3)
    (sg su : Vec Ideal S1x512 .f32) (a : Vec Ideal S8x512 .f32) (i : Fin 8) (n : Fin 512) (c : EReal) :
    amaxStep (F := Ideal) x0 q wg wu sg su a (ix2 i n) ≤ c ↔ a (ix2 i n) ≤ c ∧ ∀ t : Fin 32,
      mag (gated ((∑ k : Fin 4608, q (ix2 ⟨t.val * 8 + i.val, by omega⟩ k) * wg (ix2 k n)) * x0 (ix1 0) * sg (ix2 0 n))
          ((∑ k : Fin 4608, q (ix2 ⟨t.val * 8 + i.val, by omega⟩ k) * wu (ix2 k n)) * x0 (ix1 0) * su (ix2 0 n))) ≤ c := by
  unfold amaxStep
  rw [word_eq]
  have h := fun r => pay1_apply q (x0 (ix1 0)) wg wu sg su r n
  generalize hp : k0_pay1 (F := Ideal) (k0_pay11 q (x0 (ix1 0)) wg sg) (k0_pay12 q (x0 (ix1 0)) wu su)
    (k0_pay13 q (x0 (ix1 0)) wg sg) k0_pay14 = p at h
  unfold k0_pay2
  rw [hp]
  pointwise
  rw [max_le_iff, fold_max_le]
  refine and_congr_right fun _ => ⟨fun hh t => ?_, fun hh t _ => ?_⟩
  · rw [← h]; exact hh t (Finset.mem_univ _)
  · have := hh t
    rw [← h] at this; exact this

end Cert.KernelIdeal.Body
-- ==== Proof.IdealReads.lean ====
/-
  The idealized kernel's windows: where each block lies in its array, and the input blocks as reads of the arguments.
-/
module

public import proofs.«01_k».proof.Proof.IdealBlock

@[expose] public section

set_option maxRecDepth 16384

noncomputable section

namespace Cert.KernelIdeal.Body

open Cert.KernelIdeal Cert.KernelIdeal.Gen Idealize.ShloMosaic Idealize.ShloMosaic.TcCoe Cert.Formula
open Idealize.SL.Sem
open Idealize.ShloMosaic.Pipeline (Dat)

variable (m : (ℓ : Loc nD τ sig) → Buf (Elt Ideal) ℓ)

/-- The arguments as launched. -/
abbrev argX (c : Dev nD) : Vec Ideal S2x128x4608 .bf16 := m ((c : Thread nD τ).loc main_arg0)
/-- The weights, gate columns first. -/
abbrev argW (c : Dev nD) : Vec Ideal S4608x73728 .fp8e4m3 := m ((c : Thread nD τ).loc main_arg1)
/-- The weights' scales, one per column. -/
abbrev argWs (c : Dev nD) : Vec Ideal S73728 .f32 := m ((c : Thread nD τ).loc main_arg2)
/-- The activations' scale. -/
abbrev argXs (c : Dev nD) : Vec Ideal S1 .f32 := m ((c : Thread nD τ).loc main_arg3)
/-- The hidden activations' scale. -/
abbrev argHs (c : Dev nD) : Vec Ideal S1 .f32 := m ((c : Thread nD τ).loc main_arg4)

/-! ### The two reshaped operands -/

/-- A reshape that joins the two row axes, at an element. -/
theorem joined_apply (x : Vec Ideal S2x128x4608 .bf16) (r : Fin 256) (k : Fin 4608) :
    shapeCast S256x4608 x shapeCasts_S2x128x4608_S256x4608 (ix2 r k) = x (ix3 ⟨r.val / 128, by omega⟩ ⟨r.val % 128, by omega⟩ k) := by
  pointwise

/-- A reshape that adds a unit axis, at an element. -/
theorem row_apply (x : Vec Ideal S73728 .f32) (n : Fin 73728) :
    shapeCast S1x73728 x shapeCasts_S73728_S1x73728 (ix2 0 n) = x (ix1 n) := by
  pointwise

/-- The activations with their two row axes joined. -/
theorem V_v1 (c : Dev nD) (r : Fin 256) (k : Fin 4608) :
    (V m c main_v1 : Vec Ideal S256x4608 .bf16) (ix2 r k)
      = argX m c (ix3 ⟨r.val / 128, by omega⟩ ⟨r.val % 128, by omega⟩ k) := by
  have h : (V m c main_v1 : Vec Ideal S256x4608 .bf16) = shapeCast S256x4608 (m ((c : Thread nD τ).loc main_arg0) : Vec Ideal S2x128x4608 .bf16) shapeCasts_S2x128x4608_S256x4608 := by
    show StableHlo.after (List.flatten [hostOps0]) _ _ = _
    rw [show List.flatten [(hostOps0 : List (HloOp τ sig (Elt Ideal)))] = hostOps0 from List.append_nil _]
    simp only [hostOps0]
    after_results
    rfl
  rw [h]
  exact joined_apply (argX m c) r k

/-- The column scales as one row. -/
theorem V_v0 (c : Dev nD) (n : Fin 73728) :
    (V m c main_v0 : Vec Ideal S1x73728 .f32) (ix2 0 n) = argWs m c (ix1 n) := by
  have h : (V m c main_v0 : Vec Ideal S1x73728 .f32) = shapeCast S1x73728 (m ((c : Thread nD τ).loc main_arg2) : Vec Ideal S73728 .f32) shapeCasts_S73728_S1x73728 := by
    show StableHlo.after (List.flatten [hostOps0]) _ _ = _
    rw [show List.flatten [(hostOps0 : List (HloOp τ sig (Elt Ideal)))] = hostOps0 from List.append_nil _]
    simp only [hostOps0]
    after_results
    rfl
  rw [h]
  exact row_apply (argWs m c) n

/-! ### The blocks, as reads of the arguments -/

/-- The block index of the window at every grid point. -/
theorem idx0 : ∀ t : Fin cfg0.N, win0_0.index t (0 : Fin 1) = 0 :=
  (by decide +kernel : ∀ t : Fin grid0.N, _)

/-- Where an element of the window\'s block lies in its array. -/
theorem emb0 (t : Fin cfg0.N) (j : S1.Idx) : ((cfg0.win 0).blk t).view.emb j = j := by
  have e0 := idx0 t
  funext a; apply Fin.ext
  match a with
  | ⟨0, _⟩ => show win0_0.index t (0 : Fin 1) * 1 + 1 * (j 0).val = (j 0).val; rw [e0]; omega

/-- The block index of the window at every grid point. -/
theorem idx1 : ∀ t : Fin cfg0.N, win0_1.index t (0 : Fin 1) = 0 :=
  (by decide +kernel : ∀ t : Fin grid0.N, _)

/-- Where an element of the window\'s block lies in its array. -/
theorem emb1 (t : Fin cfg0.N) (j : S1.Idx) : ((cfg0.win 1).blk t).view.emb j = j := by
  have e0 := idx1 t
  funext a; apply Fin.ext
  match a with
  | ⟨0, _⟩ => show win0_1.index t (0 : Fin 1) * 1 + 1 * (j 0).val = (j 0).val; rw [e0]; omega

/-- The block index of the window at every grid point. -/
theorem idx2 : ∀ t : Fin cfg0.N, win0_2.index t (0 : Fin 2) = 0 ∧ win0_2.index t (1 : Fin 2) = 0 :=
  (by decide +kernel : ∀ t : Fin grid0.N, _)

/-- Where an element of the window\'s block lies in its array. -/
theorem emb2 (t : Fin cfg0.N) (j : S256x4608.Idx) : ((cfg0.win 2).blk t).view.emb j = j := by
  obtain ⟨e0, e1⟩ := idx2 t
  funext a; apply Fin.ext
  match a with
  | ⟨0, _⟩ => show win0_2.index t (0 : Fin 2) * 256 + 1 * (j 0).val = (j 0).val; rw [e0]; omega
  | ⟨1, _⟩ => show win0_2.index t (1 : Fin 2) * 4608 + 1 * (j 1).val = (j 1).val; rw [e1]; omega

/-- The block index of the window at every grid point. -/
theorem idx3 : ∀ t : Fin cfg0.N, win0_3.index t (0 : Fin 2) = 0 ∧ win0_3.index t (1 : Fin 2) = t.val :=
  (by decide +kernel : ∀ t : Fin grid0.N, _)

/-- Where an element of the window\'s block lies in its array. -/
theorem emb3 (t : Fin cfg0.N) (j : S4608x512.Idx) : (((cfg0.win 3).blk t).view.emb j : (⟨2, ![4608, 73728]⟩ : Shape).Idx)
    = ix2 (j 0) ⟨t.val * 512 + (j 1).val, by have := lt72 t; have : (j 1).val < 512 := (j 1).isLt; omega⟩ := by
  obtain ⟨e0, e1⟩ := idx3 t
  funext a; apply Fin.ext
  match a with
  | ⟨0, _⟩ => show win0_3.index t (0 : Fin 2) * 4608 + 1 * (j 0).val = (j 0).val; rw [e0]; omega
  | ⟨1, _⟩ => show win0_3.index t (1 : Fin 2) * 512 + 1 * (j 1).val = t.val * 512 + (j 1).val; rw [e1]; omega

/-- The block index of the window at every grid point. -/
theorem idx4 : ∀ t : Fin cfg0.N, win0_4.index t (0 : Fin 2) = 0 ∧ win0_4.index t (1 : Fin 2) = t.val + 72 :=
  (by decide +kernel : ∀ t : Fin grid0.N, _)

/-- Where an element of the window\'s block lies in its array. -/
theorem emb4 (t : Fin cfg0.N) (j : S4608x512.Idx) : (((cfg0.win 4).blk t).view.emb j : (⟨2, ![4608, 73728]⟩ : Shape).Idx)
    = ix2 (j 0) ⟨(t.val + 72) * 512 + (j 1).val, by have := lt72 t; have : (j 1).val < 512 := (j 1).isLt; omega⟩ := by
  obtain ⟨e0, e1⟩ := idx4 t
  funext a; apply Fin.ext
  match a with
  | ⟨0, _⟩ => show win0_4.index t (0 : Fin 2) * 4608 + 1 * (j 0).val = (j 0).val; rw [e0]; omega
  | ⟨1, _⟩ => show win0_4.index t (1 : Fin 2) * 512 + 1 * (j 1).val = (t.val + 72) * 512 + (j 1).val; rw [e1]; omega

/-- The block index of the window at every grid point. -/
theorem idx5 : ∀ t : Fin cfg0.N, win0_5.index t (0 : Fin 2) = 0 ∧ win0_5.index t (1 : Fin 2) = t.val :=
  (by decide +kernel : ∀ t : Fin grid0.N, _)

/-- Where an element of the window\'s block lies in its array. -/
theorem emb5 (t : Fin cfg0.N) (j : S1x512.Idx) : (((cfg0.win 5).blk t).view.emb j : (⟨2, ![1, 73728]⟩ : Shape).Idx)
    = ix2 (j 0) ⟨t.val * 512 + (j 1).val, by have := lt72 t; have : (j 1).val < 512 := (j 1).isLt; omega⟩ := by
  obtain ⟨e0, e1⟩ := idx5 t
  funext a; apply Fin.ext
  match a with
  | ⟨0, _⟩ => show win0_5.index t (0 : Fin 2) * 1 + 1 * (j 0).val = (j 0).val; rw [e0]; omega
  | ⟨1, _⟩ => show win0_5.index t (1 : Fin 2) * 512 + 1 * (j 1).val = t.val * 512 + (j 1).val; rw [e1]; omega

/-- The block index of the window at every grid point. -/
theorem idx6 : ∀ t : Fin cfg0.N, win0_6.index t (0 : Fin 2) = 0 ∧ win0_6.index t (1 : Fin 2) = t.val + 72 :=
  (by decide +kernel : ∀ t : Fin grid0.N, _)

/-- Where an element of the window\'s block lies in its array. -/
theorem emb6 (t : Fin cfg0.N) (j : S1x512.Idx) : (((cfg0.win 6).blk t).view.emb j : (⟨2, ![1, 73728]⟩ : Shape).Idx)
    = ix2 (j 0) ⟨(t.val + 72) * 512 + (j 1).val, by have := lt72 t; have : (j 1).val < 512 := (j 1).isLt; omega⟩ := by
  obtain ⟨e0, e1⟩ := idx6 t
  funext a; apply Fin.ext
  match a with
  | ⟨0, _⟩ => show win0_6.index t (0 : Fin 2) * 1 + 1 * (j 0).val = (j 0).val; rw [e0]; omega
  | ⟨1, _⟩ => show win0_6.index t (1 : Fin 2) * 512 + 1 * (j 1).val = (t.val + 72) * 512 + (j 1).val; rw [e1]; omega

/-- The block index of the window at every grid point. -/
theorem idx7 : ∀ t : Fin cfg0.N, win0_7.index t (0 : Fin 2) = 0 ∧ win0_7.index t (1 : Fin 2) = t.val :=
  (by decide +kernel : ∀ t : Fin grid0.N, _)

/-- Where an element of the window\'s block lies in its array. -/
theorem emb7 (t : Fin cfg0.N) (j : S256x512.Idx) : (((cfg0.win 7).blk t).view.emb j : (⟨2, ![256, 36864]⟩ : Shape).Idx)
    = ix2 (j 0) ⟨t.val * 512 + (j 1).val, by have := lt72 t; have : (j 1).val < 512 := (j 1).isLt; omega⟩ := by
  obtain ⟨e0, e1⟩ := idx7 t
  funext a; apply Fin.ext
  match a with
  | ⟨0, _⟩ => show win0_7.index t (0 : Fin 2) * 256 + 1 * (j 0).val = (j 0).val; rw [e0]; omega
  | ⟨1, _⟩ => show win0_7.index t (1 : Fin 2) * 512 + 1 * (j 1).val = t.val * 512 + (j 1).val; rw [e1]; omega

/-- The block index of the window at every grid point. -/
theorem idx8 : ∀ t : Fin cfg0.N, win0_8.index t (0 : Fin 2) = 0 ∧ win0_8.index t (1 : Fin 2) = 0 :=
  (by decide +kernel : ∀ t : Fin grid0.N, _)

/-- Where an element of the window\'s block lies in its array. -/
theorem emb8 (t : Fin cfg0.N) (j : S256x4608.Idx) : ((cfg0.win 8).blk t).view.emb j = j := by
  obtain ⟨e0, e1⟩ := idx8 t
  funext a; apply Fin.ext
  match a with
  | ⟨0, _⟩ => show win0_8.index t (0 : Fin 2) * 256 + 1 * (j 0).val = (j 0).val; rw [e0]; omega
  | ⟨1, _⟩ => show win0_8.index t (1 : Fin 2) * 4608 + 1 * (j 1).val = (j 1).val; rw [e1]; omega

/-- The block index of the window at every grid point. -/
theorem idx9 : ∀ t : Fin cfg0.N, win0_9.index t (0 : Fin 2) = 0 ∧ win0_9.index t (1 : Fin 2) = 0 :=
  (by decide +kernel : ∀ t : Fin grid0.N, _)

/-- Where an element of the window\'s block lies in its array. -/
theorem emb9 (t : Fin cfg0.N) (j : S1x1.Idx) : ((cfg0.win 9).blk t).view.emb j = j := by
  obtain ⟨e0, e1⟩ := idx9 t
  funext a; apply Fin.ext
  match a with
  | ⟨0, _⟩ => show win0_9.index t (0 : Fin 2) * 1 + 1 * (j 0).val = (j 0).val; rw [e0]; omega
  | ⟨1, _⟩ => show win0_9.index t (1 : Fin 2) * 1 + 1 * (j 1).val = (j 1).val; rw [e1]; omega

/-- The block index of the window at every grid point. -/
theorem idx10 : ∀ t : Fin cfg0.N, win0_10.index t (0 : Fin 2) = 0 ∧ win0_10.index t (1 : Fin 2) = 0 :=
  (by decide +kernel : ∀ t : Fin grid0.N, _)

/-- Where an element of the window\'s block lies in its array. -/
theorem emb10 (t : Fin cfg0.N) (j : S1x1.Idx) : ((cfg0.win 10).blk t).view.emb j = j := by
  obtain ⟨e0, e1⟩ := idx10 t
  funext a; apply Fin.ext
  match a with
  | ⟨0, _⟩ => show win0_10.index t (0 : Fin 2) * 1 + 1 * (j 0).val = (j 0).val; rw [e0]; omega
  | ⟨1, _⟩ => show win0_10.index t (1 : Fin 2) * 1 + 1 * (j 1).val = (j 1).val; rw [e1]; omega

/-- The two scale words' blocks are the scale arrays. -/
theorem iblk0_eq (c : Dev nD) (t : Fin cfg0.N) : (iblk m c 0 t : Vec Ideal S1 .f32) = argXs m c := by
  funext j; show V m c main_arg3 (((cfg0.win 0).blk t).view.emb j) = _; rw [emb0, V_main_arg3]

/-- The second scalar window holds the hidden activations' scale at every point. -/
theorem iblk1_eq (c : Dev nD) (t : Fin cfg0.N) : (iblk m c 1 t : Vec Ideal S1 .f32) = argHs m c := by
  funext j; show V m c main_arg4 (((cfg0.win 1).blk t).view.emb j) = _; rw [emb1, V_main_arg4]

/-- The activations' block is all of them. -/
theorem iblk2_apply (c : Dev nD) (t : Fin cfg0.N) (r : Fin 256) (k : Fin 4608) :
    (iblk m c 2 t : Vec Ideal S256x4608 .bf16) (ix2 r k) = argX m c (ix3 ⟨r.val / 128, by omega⟩ ⟨r.val % 128, by omega⟩ k) := by
  show V m c main_v1 (((cfg0.win 2).blk t).view.emb (ix2 r k)) = _
  rw [emb2]; exact V_v1 m c r k

/-- Point `t`'s gate block: 512 columns of the weights from column 512 t. -/
theorem iblk3_apply (c : Dev nD) (t : Fin cfg0.N) (k : Fin 4608) (n : Fin 512) :
    (iblk m c 3 t : Vec Ideal S4608x512 .fp8e4m3) (ix2 k n)
      = argW m c (ix2 k ⟨t.val * 512 + n.val, by have := lt72 t; omega⟩) := by
  show V m c main_arg1 (((cfg0.win 3).blk t).view.emb (ix2 k n)) = _
  rw [V_main_arg1]; exact congrArg (argW m c) (emb3 t (ix2 k n))

/-- Its up block: 512 columns from column 512 (t + 72). -/
theorem iblk4_apply (c : Dev nD) (t : Fin cfg0.N) (k : Fin 4608) (n : Fin 512) :
    (iblk m c 4 t : Vec Ideal S4608x512 .fp8e4m3) (ix2 k n)
      = argW m c (ix2 k ⟨(t.val + 72) * 512 + n.val, by have := lt72 t; omega⟩) := by
  show V m c main_arg1 (((cfg0.win 4).blk t).view.emb (ix2 k n)) = _
  rw [V_main_arg1]; exact congrArg (argW m c) (emb4 t (ix2 k n))

/-- The scales of those columns. -/
theorem iblk5_apply (c : Dev nD) (t : Fin cfg0.N) (n : Fin 512) :
    (iblk m c 5 t : Vec Ideal S1x512 .f32) (ix2 0 n) = argWs m c (ix1 ⟨t.val * 512 + n.val, by have := lt72 t; omega⟩) := by
  show V m c main_v0 (((cfg0.win 5).blk t).view.emb (ix2 0 n)) = _
  exact (congrArg (V m c main_v0 : Vec Ideal S1x73728 .f32) (emb5 t (ix2 0 n))).trans (V_v0 m c _)

/-- The up scales' block at a column. -/
theorem iblk6_apply (c : Dev nD) (t : Fin cfg0.N) (n : Fin 512) :
    (iblk m c 6 t : Vec Ideal S1x512 .f32) (ix2 0 n)
      = argWs m c (ix1 ⟨(t.val + 72) * 512 + n.val, by have := lt72 t; omega⟩) := by
  show V m c main_v0 (((cfg0.win 6).blk t).view.emb (ix2 0 n)) = _
  exact (congrArg (V m c main_v0 : Vec Ideal S1x73728 .f32) (emb6 t (ix2 0 n))).trans (V_v0 m c _)

end Cert.KernelIdeal.Body
-- ==== Proof.IdealPoints.lean ====
/-
  What the idealized kernel's grid points compute, as the formulas of the arguments.
-/
module

public import proofs.«01_k».proof.Proof.IdealReads

@[expose] public section

set_option maxRecDepth 16384

noncomputable section

namespace Cert.KernelIdeal.Body

open Cert.KernelIdeal Cert.KernelIdeal.Gen Idealize.ShloMosaic Idealize.ShloMosaic.TcCoe Cert.Formula
open Idealize.SL.Sem
open Idealize.ShloMosaic.Pipeline (Dat)

variable (m : (ℓ : Loc nD τ sig) → Buf (Elt Ideal) ℓ)

/-! ### The values the points compute, as the formulas of the arguments -/

/-- The quantised activations. -/
theorem xq_apply (c : Dev nD) (r : Fin 256) (k : Fin 4608) :
    xq m c (ix2 r k) = code (argX m c) (argXs m c) ⟨r.val / 128, by omega⟩ ⟨r.val % 128, by omega⟩ k := by
  unfold xq code
  rw [pay6_apply, iblk2_apply, word_eq, iblk0_eq]

/-- Row `r`, column `n` of point `t`'s gate product. -/
theorem gate_apply (c : Dev nD) (t : Fin cfg0.N) (r : Fin 256) (n : Fin 512) :
    (∑ k : Fin 4608, xq m c (ix2 r k) * (iblk m c 3 t : Vec Ideal S4608x512 .fp8e4m3) (ix2 k n))
        * (iblk m c 0 t : Vec Ideal S1 .f32) (ix1 0) * (iblk m c 5 t : Vec Ideal S1x512 .f32) (ix2 0 n)
      = column (argX m c) (argW m c) (argWs m c) (argXs m c) ⟨r.val / 128, by omega⟩ ⟨r.val % 128, by omega⟩
          ⟨t.val * 512 + n.val, by have := lt72 t; omega⟩ := by
  unfold column
  rw [iblk0_eq, iblk5_apply]
  simp only [xq_apply, iblk3_apply]

/-- And of its up product. -/
theorem up_apply (c : Dev nD) (t : Fin cfg0.N) (r : Fin 256) (n : Fin 512) :
    (∑ k : Fin 4608, xq m c (ix2 r k) * (iblk m c 4 t : Vec Ideal S4608x512 .fp8e4m3) (ix2 k n))
        * (iblk m c 0 t : Vec Ideal S1 .f32) (ix1 0) * (iblk m c 6 t : Vec Ideal S1x512 .f32) (ix2 0 n)
      = column (argX m c) (argW m c) (argWs m c) (argXs m c) ⟨r.val / 128, by omega⟩ ⟨r.val % 128, by omega⟩
          ⟨t.val * 512 + n.val + 36864, by have := lt72 t; omega⟩ := by
  have e : (⟨t.val * 512 + n.val + 36864, by have := lt72 t; omega⟩ : Fin 73728)
      = ⟨(t.val + 72) * 512 + n.val, by have := lt72 t; omega⟩ := Fin.ext (by show _ = _; dsimp only; omega)
  unfold column
  rw [iblk0_eq, iblk6_apply, e]
  simp only [xq_apply, iblk4_apply]

/-- The hidden activation that point `t` computes at row `r`, column `n` of its block. -/
abbrev hid (c : Dev nD) (r : Fin 256) (n : Fin 36864) : EReal :=
  hidden (argX m c) (argW m c) (argWs m c) (argXs m c) ⟨r.val / 128, by omega⟩ ⟨r.val % 128, by omega⟩ n

/-- What point `t` leaves in its block of the first result. -/
theorem after7_apply (c : Dev nD) (t : Fin cfg0.N) (r : Fin 256) (n : Fin 512) :
    ((dats m 0 c).after 7 t : Vec Ideal S256x512 .fp8e4m3) (ix2 r n)
      = clip (hid m c r ⟨t.val * 512 + n.val, by have := lt72 t; omega⟩) (argHs m c (ix1 0)) := by
  rw [after7, hq_apply, gate_apply, up_apply, iblk1_eq]; rfl

/-- One step of the running maxima at point `t`: at most `b` exactly when they were, and `b` bounds the magnitude of every
    hidden activation of the point's block in the rows of the sublane's residue. -/
theorem step_le (c : Dev nD) (t : Fin cfg0.N) (a : Vec Ideal S8x512 .f32) (i : Fin 8) (l : Fin 512) (b : EReal) :
    amaxStep (F := Ideal) (iblk m c 0 t) (xq m c) (iblk m c 3 t) (iblk m c 4 t) (iblk m c 5 t) (iblk m c 6 t) a (ix2 i l) ≤ b
      ↔ a (ix2 i l) ≤ b ∧ ∀ u : Fin 32,
        mag (hid m c ⟨u.val * 8 + i.val, by omega⟩ ⟨t.val * 512 + l.val, by have := lt72 t; omega⟩) ≤ b := by
  rw [amaxStep_le]
  refine and_congr_right fun _ => forall_congr' fun u => ?_
  rw [gate_apply, up_apply]; rfl

/-- The running maxima after point `n`, at sublane `i` and lane `l`: at most `b` exactly when `b` is not negative and
    bounds the magnitude of every hidden activation so far in the rows of residue `i` and the columns of residue `l`. -/
theorem amax_le (c : Dev nD) (i : Fin 8) (l : Fin 512) (b : EReal) : ∀ (n : ℕ) (hn : n < cfg0.N),
    amax m c n hn (ix2 i l) ≤ b ↔ 0 ≤ b ∧ ∀ s : Fin cfg0.N, s.val ≤ n → ∀ t : Fin 32,
      mag (hid m c ⟨t.val * 8 + i.val, by omega⟩ ⟨s.val * 512 + l.val, by have := lt72 s; omega⟩) ≤ b
  | 0, hn => by
    unfold amax
    rw [step_le, pay8_apply]
    refine and_congr_right fun _ => ⟨fun h s hs t => ?_, fun h t => h ⟨0, hn⟩ (Nat.le_refl _) t⟩
    obtain rfl : s = ⟨0, hn⟩ := Fin.ext (Nat.le_zero.mp hs)
    exact h t
  | n + 1, hn => by
    unfold amax
    rw [step_le, amax_le c i l b n (Nat.lt_of_succ_lt hn), and_assoc]
    refine and_congr_right fun _ => ⟨fun h s hs t => ?_, fun h => ⟨fun s hs t => h s (Nat.le_succ_of_le hs) t, fun t => h ⟨n + 1, hn⟩ (Nat.le_refl _) t⟩⟩
    rcases Nat.lt_or_ge n s.val with h1 | h1
    · obtain rfl : s = ⟨n + 1, hn⟩ := Fin.ext (by show s.val = n + 1; omega)
      exact h.2 t
    · exact h.1 s h1 t

/-- After the last point, the largest of the running maxima: at most `b` exactly when `b` bounds the magnitude of every
    hidden activation. -/
theorem last_le (c : Dev nD) (hn : 71 < cfg0.N) (j : S1x1.Idx) (b : EReal) :
    k0_pay4 (F := Ideal) (amax m c 71 hn) j ≤ b ↔ ∀ (r : Fin 256) (n : Fin 36864), mag (hid m c r n) ≤ b := by
  rw [pay4_le]
  constructor
  · intro h r n
    have h' := ((amax_le m c ⟨r.val % 8, by omega⟩ ⟨n.val % 512, by omega⟩ b 71 hn).mp (h _ _)).2
      ⟨n.val / 512, Nat.lt_of_lt_of_eq (by omega) N_0.symm⟩ (by show n.val / 512 ≤ 71; omega) ⟨r.val / 8, by omega⟩
    have er : (⟨r.val / 8 * 8 + r.val % 8, by omega⟩ : Fin 256) = r := Fin.ext (by show _ = r.val; dsimp only; omega)
    have en : (⟨n.val / 512 * 512 + n.val % 512, by omega⟩ : Fin 36864) = n := Fin.ext (by show _ = n.val; dsimp only; omega)
    dsimp only at h'
    rw [er, en] at h'
    exact h'
  · exact fun h i l => (amax_le m c i l b 71 hn).mpr ⟨(mag_nonneg _).trans (h 0 0), fun s _ u => h _ _⟩

/-- The largest magnitude of the activations, likewise. -/
theorem first_le (c : Dev nD) (t : Fin cfg0.N) (j : S1x1.Idx) (b : EReal) :
    k0_pay7 (F := Ideal) (iblk m c 2 t) j ≤ b
      ↔ ∀ (r : Fin 256) (k : Fin 4608), mag (argX m c (ix3 ⟨r.val / 128, by omega⟩ ⟨r.val % 128, by omega⟩ k)) ≤ b := by
  rw [pay7_le]
  refine forall_congr' fun r => forall_congr' fun k => ?_
  rw [iblk2_apply]

end Cert.KernelIdeal.Body
-- ==== Proof.IdealArrays.lean ====
/-
  What the idealized kernel's four result arrays hold after the run.
-/
module

public import proofs.«01_k».proof.Proof.IdealPoints

@[expose] public section

set_option maxRecDepth 16384

noncomputable section

namespace Cert.KernelIdeal.Body

open Cert.KernelIdeal Cert.KernelIdeal.Gen Idealize.ShloMosaic Idealize.ShloMosaic.TcCoe Cert.Formula
open Idealize.SL.Sem
open Idealize.ShloMosaic.Pipeline (Dat)

variable (m : (ℓ : Loc nD τ sig) → Buf (Elt Ideal) ℓ)

/-! ### The arrays after the run -/

/-- The last grid point. -/
abbrev pLast : Fin cfg0.N := ⟨71, Nat.lt_of_lt_of_eq (by omega) N_0.symm⟩

/-- The first result's array. -/
def arr7 (c : Dev nD) : Vec Ideal S256x36864 .fp8e4m3 := fun j => clip (hid m c (j 0) (j 1)) (argHs m c (ix1 0))

/-- What point `t` writes out for the hidden activations. -/
theorem flushed7_eq (c : Dev nD) (t : Fin cfg0.N) :
    (dats m 0 c).flushed 7 t = ((cfg0.win 7).blk t).view.read (Elt Ideal) (arr7 m c) := by
  funext j
  show ((dats m 0 c).after 7 t : Vec Ideal S256x512 .fp8e4m3) j = arr7 m c (((cfg0.win 7).blk t).view.emb j)
  rw [show (((cfg0.win 7).blk t).view.emb j : S256x36864.Idx) = _ from emb7 t j, eq_ix2 j]
  exact after7_apply m c t (j 0) (j 1)

/-- Membership along an equation. -/
theorem mem_of_eq {α : Type} {S : Finset α} {a b : α} (h : a ∈ S) (e : a = b) : b ∈ S := e ▸ h

/-- The blocks of 512 columns cover the array: column `n` is in block `n / 512`. -/
theorem cover7 (i : S256x36864.Idx) : ∃ t : Fin cfg0.N, (cfg0.win 7).flush t = true ∧ i ∈ ((cfg0.win 7).blk t).view.set := by
  have h1 : (i 1).val < 36864 := (i 1).isLt
  refine ⟨⟨(i 1).val / 512, Nat.lt_of_lt_of_eq (by omega) N_0.symm⟩, flush0_7 _, ?_⟩
  have h := ((cfg0.win 7).blk ⟨(i 1).val / 512, Nat.lt_of_lt_of_eq (by omega) N_0.symm⟩).view.emb_mem_set
    (ix2 (⟨(i 0).val, (i 0).isLt⟩ : Fin 256) (⟨(i 1).val % 512, by omega⟩ : Fin 512))
  have e := (emb7 ⟨(i 1).val / 512, Nat.lt_of_lt_of_eq (by omega) N_0.symm⟩
    (ix2 (⟨(i 0).val, (i 0).isLt⟩ : Fin 256) (⟨(i 1).val % 512, by omega⟩ : Fin 512))).trans (b := _) (c := i) (by
      funext a; apply Fin.ext
      match a with
      | ⟨0, _⟩ => rfl
      | ⟨1, _⟩ => show (i 1).val / 512 * 512 + (i 1).val % 512 = (i 1).val; omega)
  exact mem_of_eq h e

/-- The first result's array after the run. -/
theorem final7 (c : Dev nD) : (dats m 0 c).arrAt 7 cfg0.N = arr7 m c :=
  (dats m 0 c).arrAt_eq_of_cover 7 (arr7 m c) (fun t _ => flushed7_eq m c t) cover7

/-- The quantised activations' array: what the last point wrote back, the whole array. -/
def arr8 (c : Dev nD) : Vec Ideal S256x4608 .fp8e4m3 := xq m c

/-- the window's block being the whole array. -/
theorem cut8 (X : Vec Ideal S256x4608 .fp8e4m3) (t : Fin cfg0.N) :
    (cfg0.win 8).cut (grid0.coords t) X = ((cfg0.win 8).blk t).view.read (Elt Ideal) X := by
  funext j
  show X j = X (((cfg0.win 8).blk t).view.emb j)
  rw [emb8]

/-- What the last point writes back is the block of it, -/
theorem flushed8_eq (c : Dev nD) (t : Fin cfg0.N) (ht : (cfg0.win 8).flush t = true) :
    (dats m 0 c).flushed 8 t = ((cfg0.win 8).blk t).view.read (Elt Ideal) (arr8 m c) := by
  rw [flush8_eq, decide_eq_true_iff] at ht
  obtain rfl : t = pLast := Fin.ext ht
  show (cfg0.win 8).cut (grid0.coords pLast) ((dats m 0 c).after 8 pLast) = _
  rw [after8]
  exact cut8 _ _

/-- The last point's block covers the array, -/
theorem cover8 (i : S256x4608.Idx) : ∃ t : Fin cfg0.N, (cfg0.win 8).flush t = true ∧ i ∈ ((cfg0.win 8).blk t).view.set :=
  ⟨pLast, by rw [flush8_eq]; rfl, by have h := ((cfg0.win 8).blk pLast).view.emb_mem_set i; rwa [emb8] at h⟩

/-- so the array ends holding it. -/
theorem final8 (c : Dev nD) : (dats m 0 c).arrAt 8 cfg0.N = arr8 m c :=
  (dats m 0 c).arrAt_eq_of_cover 8 (arr8 m c) (flushed8_eq m c) cover8

/-- The activations' largest magnitude: what the last point wrote back, the whole array. -/
def arr9 (c : Dev nD) : Vec Ideal S1x1 .f32 := k0_pay7 (F := Ideal) (iblk m c 2 p0)

/-- the window's block being the whole array. -/
theorem cut9 (X : Vec Ideal S1x1 .f32) (t : Fin cfg0.N) :
    (cfg0.win 9).cut (grid0.coords t) X = ((cfg0.win 9).blk t).view.read (Elt Ideal) X := by
  funext j
  show X j = X (((cfg0.win 9).blk t).view.emb j)
  rw [emb9]

/-- What the last point writes back is the block of it, -/
theorem flushed9_eq (c : Dev nD) (t : Fin cfg0.N) (ht : (cfg0.win 9).flush t = true) :
    (dats m 0 c).flushed 9 t = ((cfg0.win 9).blk t).view.read (Elt Ideal) (arr9 m c) := by
  rw [flush9_eq, decide_eq_true_iff] at ht
  obtain rfl : t = pLast := Fin.ext ht
  show (cfg0.win 9).cut (grid0.coords pLast) ((dats m 0 c).after 9 pLast) = _
  rw [after9]
  exact cut9 _ _

/-- The last point's block covers the array, -/
theorem cover9 (i : S1x1.Idx) : ∃ t : Fin cfg0.N, (cfg0.win 9).flush t = true ∧ i ∈ ((cfg0.win 9).blk t).view.set :=
  ⟨pLast, by rw [flush9_eq]; rfl, by have h := ((cfg0.win 9).blk pLast).view.emb_mem_set i; rwa [emb9] at h⟩

/-- so the array ends holding it. -/
theorem final9 (c : Dev nD) : (dats m 0 c).arrAt 9 cfg0.N = arr9 m c :=
  (dats m 0 c).arrAt_eq_of_cover 9 (arr9 m c) (flushed9_eq m c) cover9

/-- The hidden activations' largest magnitude: what the last point wrote back, the whole array. -/
def arr10 (c : Dev nD) : Vec Ideal S1x1 .f32 := k0_pay4 (F := Ideal) (amax m c 71 pLast.isLt)

/-- the window's block being the whole array. -/
theorem cut10 (X : Vec Ideal S1x1 .f32) (t : Fin cfg0.N) :
    (cfg0.win 10).cut (grid0.coords t) X = ((cfg0.win 10).blk t).view.read (Elt Ideal) X := by
  funext j
  show X j = X (((cfg0.win 10).blk t).view.emb j)
  rw [emb10]

/-- What the last point writes back is the block of it, -/
theorem flushed10_eq (c : Dev nD) (t : Fin cfg0.N) (ht : (cfg0.win 10).flush t = true) :
    (dats m 0 c).flushed 10 t = ((cfg0.win 10).blk t).view.read (Elt Ideal) (arr10 m c) := by
  rw [flush10_eq, decide_eq_true_iff] at ht
  obtain rfl : t = pLast := Fin.ext ht
  show (cfg0.win 10).cut (grid0.coords pLast) ((dats m 0 c).after 10 pLast) = _
  rw [after10]
  exact cut10 _ _

/-- The last point's block covers the array, -/
theorem cover10 (i : S1x1.Idx) : ∃ t : Fin cfg0.N, (cfg0.win 10).flush t = true ∧ i ∈ ((cfg0.win 10).blk t).view.set :=
  ⟨pLast, by rw [flush10_eq]; rfl, by have h := ((cfg0.win 10).blk pLast).view.emb_mem_set i; rwa [emb10] at h⟩

/-- so the array ends holding it. -/
theorem final10 (c : Dev nD) : (dats m 0 c).arrAt 10 cfg0.N = arr10 m c :=
  (dats m 0 c).arrAt_eq_of_cover 10 (arr10 m c) (flushed10_eq m c) cover10

end Cert.KernelIdeal.Body
-- ==== Proof.IdealResults.lean ====
/-
  The idealized kernel's four results after the whole program.
-/
module

public import proofs.«01_k».proof.Proof.IdealArrays

@[expose] public section

set_option maxRecDepth 16384

noncomputable section

namespace Cert.KernelIdeal.Body

open Cert.KernelIdeal Cert.KernelIdeal.Gen Idealize.ShloMosaic Idealize.ShloMosaic.TcCoe Cert.Formula
open Idealize.SL.Sem
open Idealize.ShloMosaic.Pipeline (Dat)

variable (m : (ℓ : Loc nD τ sig) → Buf (Elt Ideal) ℓ)

/-! ### The results: the arrays reshaped by the host operations after the region -/

/-- The result `main_v3` is a reshape of window 7's array. -/
theorem tail7 (c : Dev nD) :
    (Pipeline.afterTail₀ cfgs (dats m) 0 (V0 m) [hostOps1] c main_v3 : Vec Ideal S2x128x36864 .fp8e4m3)
      = shapeCast S2x128x36864 (arr7 m c) shapeCasts_S256x36864_S2x128x36864 := by
  have h : Pipeline.withArrays spec0 c (V0 m c) (fun w => (dats m 0 c).arrAt w cfg0.N) (Proc.devRef .tc main_v2_0)
      = (dats m 0 c).arrAt 7 cfg0.N :=
    Pipeline.withArrays_arr_shared spec0 c (V0 m c) (fun w => (dats m 0 c).arrAt w cfg0.N)
      ((dats m 0 c).arrAt_sharedIn sharedIn0 (V0 m c) (A_eq m c) cfg0.N) 7
  rw [final7] at h
  unfold Pipeline.afterTail₀
  rw [show List.flatten [(hostOps1 : List (HloOp τ sig (Elt Ideal)))] = hostOps1 from List.append_nil _]
  simp only [hostOps1]
  show StableHlo.after _ (Pipeline.withArrays spec0 c (V0 m c) fun w => (dats m 0 c).arrAt w cfg0.N) _ = _
  generalize (Pipeline.withArrays spec0 c (V0 m c) fun w => (dats m 0 c).arrAt w cfg0.N) = W at h ⊢
  after_results
  rw [h]
  rfl

/-- The result `main_v4` is a reshape of window 8's array. -/
theorem tail8 (c : Dev nD) :
    (Pipeline.afterTail₀ cfgs (dats m) 0 (V0 m) [hostOps1] c main_v4 : Vec Ideal S2x128x4608 .fp8e4m3)
      = shapeCast S2x128x4608 (arr8 m c) shapeCasts_S256x4608_S2x128x4608 := by
  have h : Pipeline.withArrays spec0 c (V0 m c) (fun w => (dats m 0 c).arrAt w cfg0.N) (Proc.devRef .tc main_v2_1)
      = (dats m 0 c).arrAt 8 cfg0.N :=
    Pipeline.withArrays_arr_shared spec0 c (V0 m c) (fun w => (dats m 0 c).arrAt w cfg0.N)
      ((dats m 0 c).arrAt_sharedIn sharedIn0 (V0 m c) (A_eq m c) cfg0.N) 8
  rw [final8] at h
  unfold Pipeline.afterTail₀
  rw [show List.flatten [(hostOps1 : List (HloOp τ sig (Elt Ideal)))] = hostOps1 from List.append_nil _]
  simp only [hostOps1]
  show StableHlo.after _ (Pipeline.withArrays spec0 c (V0 m c) fun w => (dats m 0 c).arrAt w cfg0.N) _ = _
  generalize (Pipeline.withArrays spec0 c (V0 m c) fun w => (dats m 0 c).arrAt w cfg0.N) = W at h ⊢
  after_results
  rw [h]
  rfl

/-- The result `main_v5` is a reshape of window 9's array. -/
theorem tail9 (c : Dev nD) :
    (Pipeline.afterTail₀ cfgs (dats m) 0 (V0 m) [hostOps1] c main_v5 : Vec Ideal S1 .f32)
      = shapeCast S1 (arr9 m c) shapeCasts_S1x1_S1 := by
  have h : Pipeline.withArrays spec0 c (V0 m c) (fun w => (dats m 0 c).arrAt w cfg0.N) (Proc.devRef .tc main_v2_2)
      = (dats m 0 c).arrAt 9 cfg0.N :=
    Pipeline.withArrays_arr_shared spec0 c (V0 m c) (fun w => (dats m 0 c).arrAt w cfg0.N)
      ((dats m 0 c).arrAt_sharedIn sharedIn0 (V0 m c) (A_eq m c) cfg0.N) 9
  rw [final9] at h
  unfold Pipeline.afterTail₀
  rw [show List.flatten [(hostOps1 : List (HloOp τ sig (Elt Ideal)))] = hostOps1 from List.append_nil _]
  simp only [hostOps1]
  show StableHlo.after _ (Pipeline.withArrays spec0 c (V0 m c) fun w => (dats m 0 c).arrAt w cfg0.N) _ = _
  generalize (Pipeline.withArrays spec0 c (V0 m c) fun w => (dats m 0 c).arrAt w cfg0.N) = W at h ⊢
  after_results
  rw [h]
  rfl

/-- The result `main_v6` is a reshape of window 10's array. -/
theorem tail10 (c : Dev nD) :
    (Pipeline.afterTail₀ cfgs (dats m) 0 (V0 m) [hostOps1] c main_v6 : Vec Ideal S1 .f32)
      = shapeCast S1 (arr10 m c) shapeCasts_S1x1_S1 := by
  have h : Pipeline.withArrays spec0 c (V0 m c) (fun w => (dats m 0 c).arrAt w cfg0.N) (Proc.devRef .tc main_v2_3)
      = (dats m 0 c).arrAt 10 cfg0.N :=
    Pipeline.withArrays_arr_shared spec0 c (V0 m c) (fun w => (dats m 0 c).arrAt w cfg0.N)
      ((dats m 0 c).arrAt_sharedIn sharedIn0 (V0 m c) (A_eq m c) cfg0.N) 10
  rw [final10] at h
  unfold Pipeline.afterTail₀
  rw [show List.flatten [(hostOps1 : List (HloOp τ sig (Elt Ideal)))] = hostOps1 from List.append_nil _]
  simp only [hostOps1]
  show StableHlo.after _ (Pipeline.withArrays spec0 c (V0 m c) fun w => (dats m 0 c).arrAt w cfg0.N) _ = _
  generalize (Pipeline.withArrays spec0 c (V0 m c) fun w => (dats m 0 c).arrAt w cfg0.N) = W at h ⊢
  after_results
  rw [h]
  rfl

/-- The run: every device's four results are those reshapes, and the arguments are unchanged. -/
theorem run_results (ρ : Dev nD → PrngReg) : θ_run defs (onTc (τ := τ) (main (F := Ideal))) ⟨m, fun _ => 0, ρ⟩ fun r => ∀ c : Dev nD,
      r.2.mem ((c.tc : Thread nD τ).loc main_v3) = shapeCast S2x128x36864 (arr7 m c) shapeCasts_S256x36864_S2x128x36864
      ∧ r.2.mem ((c.tc : Thread nD τ).loc main_v4) = shapeCast S2x128x4608 (arr8 m c) shapeCasts_S256x4608_S2x128x4608
      ∧ r.2.mem ((c.tc : Thread nD τ).loc main_v5) = shapeCast S1 (arr9 m c) shapeCasts_S1x1_S1
      ∧ r.2.mem ((c.tc : Thread nD τ).loc main_v6) = shapeCast S1 (arr10 m c) shapeCasts_S1x1_S1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h.1 c).2 main_v3 (Pipeline.mem_restRefs_of main_v3 (by decide) (by decide))).trans (tail7 m c),
      ((h.1 c).2 main_v4 (Pipeline.mem_restRefs_of main_v4 (by decide) (by decide))).trans (tail8 m c),
      ((h.1 c).2 main_v5 (Pipeline.mem_restRefs_of main_v5 (by decide) (by decide))).trans (tail9 m c),
      ((h.1 c).2 main_v6 (Pipeline.mem_restRefs_of main_v6 (by decide) (by decide))).trans (tail10 m c),
      (h.2.1 c).1, (h.2.1 c).2.1, (h.2.1 c).2.2.1, (h.2.1 c).2.2.2.1, (h.2.1 c).2.2.2.2⟩)
    (θ_run_and (run_main m ρ) (frame m ρ))

end Cert.KernelIdeal.Body
-- ==== Proof.RefFormula.lean ====
/-
  What the reference computes: its four result arrays, element by element, are the formulas of its arguments.
-/
module

public import proofs.«01_k».proof.Proof.Gen.ReferenceIdeal.Value
public import proofs.«01_k».proof.Proof.Formula

@[expose] public section

set_option maxRecDepth 16384

noncomputable section

namespace Cert.ReferenceIdeal.Reading

open Cert.ReferenceIdeal Cert.ReferenceIdeal.Gen Cert.ReferenceIdeal.Value Idealize.ShloMosaic
open Cert.Formula hiding hidden

variable (x : Vec Ideal S2x128x4608 .bf16) (w : Vec Ideal S4608x73728 .fp8e4m3) (ws : Vec Ideal S73728 .f32)
  (xs hs : Vec Ideal S1 .f32)

/-- The quantised activations. -/
theorem code_apply (b : Fin 2) (r : Fin 128) (k : Fin 4608) :
    k0_pay6 (F := Ideal) x xs (ix3 b r k) = code x xs b r k := by
  unfold k0_pay6 k0_pay4 code clip
  pointwise

/-- The scaled product. -/
theorem column_apply (b : Fin 2) (r : Fin 128) (n : Fin 73728) :
    k0_pay7 (F := Ideal) x xs w ws (ix3 b r n) = column x w ws xs b r n := by
  have h := code_apply x xs b r
  unfold column
  unfold k0_pay7
  generalize k0_pay6 (F := Ideal) x xs = q at h
  pointwise
  simp only [h]

/-- The values the reference's frame states apart, over the argument arrays. -/
theorem pay10_eq : k0_pay10 (F := Ideal) x w ws xs hs = k0_pay7 x xs w ws := by
  unfold k0_pay10
  rw [View.ld_unit_zero (S := S2x128x4608) hz0 _ x, View.ld_unit_zero (S := S4608x73728) hz1 _ w,
    View.ld_unit_zero (S := S73728) hz2 _ ws, View.ld_unit_zero (S := S1) hz3 _ xs]

/-- The same of the gate branch. -/
theorem pay11_eq : k0_pay11 (F := Ideal) x w ws xs hs = k0_pay8 x xs w ws := by
  unfold k0_pay11
  rw [View.ld_unit_zero (S := S2x128x4608) hz0 _ x, View.ld_unit_zero (S := S4608x73728) hz1 _ w,
    View.ld_unit_zero (S := S73728) hz2 _ ws, View.ld_unit_zero (S := S1) hz3 _ xs]

/-- The same of the hyperbolic tangent. -/
theorem pay12_eq : k0_pay12 (F := Ideal) x w ws xs hs = k0_pay9 x xs w ws := by
  unfold k0_pay12
  rw [View.ld_unit_zero (S := S2x128x4608) hz0 _ x, View.ld_unit_zero (S := S4608x73728) hz1 _ w,
    View.ld_unit_zero (S := S73728) hz2 _ ws, View.ld_unit_zero (S := S1) hz3 _ xs]

/-- The gate branch: the first 36864 columns. -/
theorem gate_apply (b : Fin 2) (r : Fin 128) (n : Fin 36864) :
    k0_pay8 (F := Ideal) x xs w ws (ix3 b r n) = column x w ws xs b r ⟨n.val, by omega⟩ := by
  have h := column_apply x w ws xs b r
  unfold k0_pay8
  generalize k0_pay7 (F := Ideal) x xs w ws = q at h
  pointwise
  exact h _

/-- The hidden activations. -/
theorem hidden_apply (b : Fin 2) (r : Fin 128) (n : Fin 36864) :
    k0_pay1 (F := Ideal) (k0_pay7 x xs w ws) (k0_pay8 x xs w ws) (k0_pay9 x xs w ws) (Scalar.ofBits .f32 0x3F800000#32) (ix3 b r n)
      = Formula.hidden x w ws xs b r n := by
  have h := column_apply x w ws xs b r
  have h8 := gate_apply x w ws xs b r n
  unfold k0_pay1 k0_pay9
  generalize k0_pay7 (F := Ideal) x xs w ws = q at h
  generalize k0_pay8 (F := Ideal) x xs w ws = p at h8
  unfold Formula.hidden gated
  pointwise
  rw [h, h8]
  simp only [Nat.add_comm]

/-- The first result at an element. -/
theorem G5_apply (b : Fin 2) (r : Fin 128) (n : Fin 36864) :
    G5 (F := Ideal) x w ws xs hs (ix3 b r n) = clip (Formula.hidden x w ws xs b r n) (hs (ix1 0)) := by
  have h := hidden_apply x w ws xs b r n
  unfold G5
  rw [pay10_eq, pay11_eq, pay12_eq]
  unfold k0_pay3
  generalize k0_pay1 (F := Ideal) (k0_pay7 x xs w ws) (k0_pay8 x xs w ws) (k0_pay9 x xs w ws) (Scalar.ofBits .f32 0x3F800000#32) = p at h ⊢
  unfold clip
  pointwise
  rw [h]

/-- A one-element array has one index. -/
theorem idx1_eq (i j : S1.Idx) : i = j := by
  funext a; fin_cases a; exact Subsingleton.elim (α := Fin 1) _ _

/-- The third result: at most `c` exactly when `c` bounds every activation's magnitude. -/
theorem G7_le (j : S1.Idx) (c : EReal) :
    G7 (F := Ideal) x w ws xs hs j ≤ c ↔ ∀ (b : Fin 2) (r : Fin 128) (k : Fin 4608), mag (x (ix3 b r k)) ≤ c := by
  idx_vars j
  generalize hQ : (∀ (b : Fin 2) (r : Fin 128) (k : Fin 4608), mag (x (ix3 b r k)) ≤ c) = Q
  unfold G7 k0_pay5 k0_pay4
  pointwise
  rw [fold_max_le, ← hQ]
  exact ⟨fun h b r k => h (ix4 0 b r k) (Finset.mem_filter.mpr ⟨Finset.mem_univ _, idx1_eq _ _⟩), fun h i _ => h _ _ _⟩

/-- The fourth result: at most `c` exactly when `c` bounds every hidden activation's magnitude. -/
theorem G8_le (j : S1.Idx) (c : EReal) :
    G8 (F := Ideal) x w ws xs hs j ≤ c
      ↔ ∀ (b : Fin 2) (r : Fin 128) (n : Fin 36864), mag (Formula.hidden x w ws xs b r n) ≤ c := by
  idx_vars j
  generalize hQ : (∀ (b : Fin 2) (r : Fin 128) (n : Fin 36864), mag (Formula.hidden x w ws xs b r n) ≤ c) = Q
  unfold G8
  rw [pay10_eq, pay11_eq, pay12_eq]
  have h := hidden_apply x w ws xs
  unfold k0_pay2
  generalize k0_pay1 (F := Ideal) (k0_pay7 x xs w ws) (k0_pay8 x xs w ws) (k0_pay9 x xs w ws) (Scalar.ofBits .f32 0x3F800000#32) = p at h ⊢
  pointwise
  rw [fold_max_le, ← hQ]
  simp only [← h]
  exact ⟨fun h b r n => h (ix4 0 b r n) (Finset.mem_filter.mpr ⟨Finset.mem_univ _, idx1_eq _ _⟩), fun h i _ => h _ _ _⟩

end Cert.ReferenceIdeal.Reading
-- ==== Proof.Equation.lean ====
/-
  The idealized kernel's four results are the reference's four, as arrays over the extended reals.
-/
module

public import proofs.«01_k».proof.Proof.IdealResults
public import proofs.«01_k».proof.Proof.RefFormula

@[expose] public section

set_option maxRecDepth 16384

noncomputable section

namespace Cert.KernelIdeal.Body

open Cert.KernelIdeal Cert.KernelIdeal.Gen Idealize.ShloMosaic Idealize.ShloMosaic.TcCoe
open Cert.ReferenceIdeal.Value (G5 G6 G7 G8)
open Cert.ReferenceIdeal.Reading (code_apply G5_apply G7_le G8_le)
open Cert.Formula hiding hidden

variable (m : (ℓ : Loc nD τ sig) → Buf (Elt Ideal) ℓ)

/-- A reshape that splits the row axis, at an element (36864 columns). -/
theorem split_apply (a : Vec Ideal S256x36864 .fp8e4m3) (b : Fin 2) (r : Fin 128) (n : Fin 36864) :
    shapeCast S2x128x36864 a shapeCasts_S256x36864_S2x128x36864 (ix3 b r n) = a (ix2 ⟨b.val * 128 + r.val, by omega⟩ n) := by
  pointwise

/-- The same with 4608 columns. -/
theorem split_apply' (a : Vec Ideal S256x4608 .fp8e4m3) (b : Fin 2) (r : Fin 128) (k : Fin 4608) :
    shapeCast S2x128x4608 a shapeCasts_S256x4608_S2x128x4608 (ix3 b r k) = a (ix2 ⟨b.val * 128 + r.val, by omega⟩ k) := by
  pointwise

/-- A one-element array reshaped. -/
theorem one_apply (a : Vec Ideal S1x1 .f32) (j : S1.Idx) : shapeCast S1 a shapeCasts_S1x1_S1 j = a (ix2 0 0) := by
  idx_vars j
  pointwise

/-- Row `128 b + r` of the joined rows is row `r` of part `b`. -/
theorem row_div (b : Fin 2) (r : Fin 128) (h : (b.val * 128 + r.val) / 128 < 2) :
    (⟨(b.val * 128 + r.val) / 128, h⟩ : Fin 2) = b := Fin.ext (by dsimp only; omega)
/-- The remainder of the joined row is the row inside its part. -/
theorem row_mod (b : Fin 2) (r : Fin 128) (h : (b.val * 128 + r.val) % 128 < 128) :
    (⟨(b.val * 128 + r.val) % 128, h⟩ : Fin 128) = r := Fin.ext (by dsimp only; omega)

/-- The quantised hidden activations. -/
theorem result0 (c : Dev nD) : (shapeCast S2x128x36864 (arr7 m c) shapeCasts_S256x36864_S2x128x36864 : Vec Ideal S2x128x36864 .fp8e4m3)
    = G5 (F := Ideal) (argX m c) (argW m c) (argWs m c) (argXs m c) (argHs m c) := by
  funext j
  idx_vars j
  rw [G5_apply, split_apply]
  exact congrArg₂ (fun (b : Fin 2) (r : Fin 128) =>
      clip (Formula.hidden (argX m c) (argW m c) (argWs m c) (argXs m c) b r j2) (argHs m c (ix1 0)))
    (row_div j0 j1 (by omega)) (row_mod j0 j1 (by omega))

/-- The quantised activations. -/
theorem result1 (c : Dev nD) : (shapeCast S2x128x4608 (arr8 m c) shapeCasts_S256x4608_S2x128x4608 : Vec Ideal S2x128x4608 .fp8e4m3)
    = G6 (F := Ideal) (argX m c) (argW m c) (argWs m c) (argXs m c) (argHs m c) := by
  funext j
  unfold G6
  idx_vars j
  rw [code_apply, split_apply']
  unfold arr8
  rw [xq_apply]
  dsimp only
  rw [row_div, row_mod]

/-- The largest magnitude of the activations: both sides have the same upper bounds. -/
theorem result2 (c : Dev nD) : (shapeCast S1 (arr9 m c) shapeCasts_S1x1_S1 : Vec Ideal S1 .f32)
    = G7 (F := Ideal) (argX m c) (argW m c) (argWs m c) (argXs m c) (argHs m c) := by
  funext j
  rw [one_apply]
  refine eq_of_forall_ge_iff fun b => ?_
  rw [G7_le]
  unfold arr9
  rw [first_le]
  refine ⟨fun h p r k => ?_, fun h r k => h _ _ _⟩
  have := h ⟨p.val * 128 + r.val, by omega⟩ k
  dsimp only at this
  rwa [row_div, row_mod] at this

/-- The largest magnitude of the hidden activations, likewise. -/
theorem result3 (c : Dev nD) : (shapeCast S1 (arr10 m c) shapeCasts_S1x1_S1 : Vec Ideal S1 .f32)
    = G8 (F := Ideal) (argX m c) (argW m c) (argWs m c) (argXs m c) (argHs m c) := by
  funext j
  rw [one_apply]
  refine eq_of_forall_ge_iff fun b => ?_
  rw [G8_le]
  unfold arr10
  rw [last_le]
  refine ⟨fun h p r n => ?_, fun h r n => h _ _ _⟩
  have := h ⟨p.val * 128 + r.val, by omega⟩ n
  unfold hid at this
  dsimp only at this
  rwa [row_div, row_mod] at this

end Cert.KernelIdeal.Body
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.MachineLaunch
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The idealized kernel and the reference end with equal results, and leave their arguments unchanged. -/
theorem algebraic : algebraic_KernelIdeal_ReferenceIdeal (hKernelIdeal := Cert.KernelIdeal.Gen.facts)
    (hReferenceIdeal := Cert.ReferenceIdeal.Gen.facts) := by
  intro m g m' g' _ hagree
  refine ⟨_, _, _, _, Cert.KernelIdeal.Body.run_results m g, (θ_run _ _ _).mono (fun r h c => ?_) (Cert.ReferenceIdeal.Value.run m' g')⟩
  obtain ⟨h0, h1, h2, h3, h4⟩ := hagree c
  obtain ⟨r0, r1, r2, r3, k⟩ := h c
  rw [h0, h1, h2, h3, h4] at r0 r1 r2 r3
  exact ⟨r0.trans (Cert.KernelIdeal.Body.result0 m c).symm, r1.trans (Cert.KernelIdeal.Body.result1 m c).symm,
    r2.trans (Cert.KernelIdeal.Body.result2 m c).symm, r3.trans (Cert.KernelIdeal.Body.result3 m c).symm, k⟩

/-- Everything the certificate claims. -/
theorem claim : Cert.Claim := ⟨Cert.Kernel.Gen.facts, Cert.KernelIdeal.Gen.facts, Cert.ReferenceIdeal.Gen.facts,
  fun m g _ => Cert.Kernel.Body.frame m g, fun m g _ => Cert.KernelIdeal.Body.frame m g,
  fun m g _ => Cert.ReferenceIdeal.Gen.frame m g, trivial, algebraic⟩

end Cert.Proof

end
